-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_v37) = v3 c
          ∧ r.2.mem ((c.tc : Thread Cert.Reference5Ideal.nD Cert.Reference5Ideal.τ).loc Cert.Reference5Ideal.main_v44) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)) (v11 : (c : Dev Cert.Kernel6Ideal.nD) → Buf (Elt Ideal) ((c.tc : Thread Cert.Kernel6Ideal.nD Cert.Kernel6Ideal.τ).loc Cert.Kernel6Ideal.main_v0_11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_v0_11) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v35) = v2 c
          ∧ r.2.mem ((c.tc : Thread Cert.Reference6Ideal.nD Cert.Reference6Ideal.τ).loc Cert.Reference6Ideal.main_v40) = v3 c
          ∧ r.2.mem ((c.tc : Thread Cert.Reference6Ideal.nD Cert.Reference6Ideal.τ).loc Cert.Reference6Ideal.main_v45) = v4 c
          ∧ r.2.mem ((c.tc : Thread Cert.Reference6Ideal.nD Cert.Reference6Ideal.τ).loc Cert.Reference6Ideal.main_v50) = v5 c
          ∧ r.2.mem ((c.tc : Thread Cert.Reference6Ideal.nD Cert.Reference6Ideal.τ).loc Cert.Reference6Ideal.main_v54) = v6 c
          ∧ r.2.mem ((c.tc : Thread Cert.Reference6Ideal.nD Cert.Reference6Ideal.τ).loc Cert.Reference6Ideal.main_v58) = v7 c
          ∧ r.2.mem ((c.tc : Thread Cert.Reference6Ideal.nD Cert.Reference6Ideal.τ).loc Cert.Reference6Ideal.main_v61) = v8 c
          ∧ r.2.mem ((c.tc : Thread Cert.Reference6Ideal.nD Cert.Reference6Ideal.τ).loc Cert.Reference6Ideal.main_v65) = v9 c
          ∧ r.2.mem ((c.tc : Thread Cert.Reference6Ideal.nD Cert.Reference6Ideal.τ).loc Cert.Reference6Ideal.main_v69) = v10 c
          ∧ r.2.mem ((c.tc : Thread Cert.Reference6Ideal.nD Cert.Reference6Ideal.τ).loc Cert.Reference6Ideal.main_v72) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel2.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S32768x11264 : Shape := ⟨2, ![32768, 11264]⟩
abbrev S32768x5632 : Shape := ⟨2, ![32768, 5632]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S2048x11264, .f32⟩
  | .hbm, ⟨5, _⟩ => ⟨S5632x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x11264, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S32768x5632, .f32⟩
  | .hbm, ⟨26, _⟩ => ⟨S_, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S32768x2048, .f32⟩
  | .hbm, ⟨6, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S32768x11264 : Shape := ⟨2, ![32768, 11264]⟩
abbrev S32768x5632 : Shape := ⟨2, ![32768, 5632]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S2048x11264, .f32⟩
  | .hbm, ⟨6, _⟩ => ⟨S5632x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x11264, .f32⟩
  | .hbm, ⟨23, _⟩ => ⟨S32768x5632, .f32⟩
  | .hbm, ⟨24, _⟩ => ⟨S32768x5632, .f32⟩
  | .hbm, ⟨25, _⟩ => ⟨S32768x5632, .f32⟩
  | .hbm, ⟨26, _⟩ => ⟨S32768x5632, .f32⟩
  | .hbm, ⟨27, _⟩ => ⟨S_, .f32⟩
  | .hbm, ⟨28, _⟩ => ⟨S32768x5632, .f32⟩
  | .hbm, ⟨29, _⟩ => ⟨S32768x5632, .f32⟩
  | .hbm, ⟨30, _⟩ => ⟨S_, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x5632, .f32⟩
  | .hbm, ⟨35, _⟩ => ⟨S32768x2048, .f32⟩
  | .hbm, ⟨36, _⟩ => ⟨S_, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S32768x2048, .f32⟩
  | .hbm, ⟨55, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel4.lean ====
abbrev S32768x2048 : Shape := ⟨2, ![32768, 2048]⟩
abbrev S32768x256 : Shape := ⟨2, ![32768, 256]⟩
abbrev S1x2048 : Shape := ⟨2, ![1, 2048]⟩
abbrev S2048x2048 : Shape := ⟨2, ![2048, 2048]⟩
abbrev S256x2048 : Shape := ⟨2, ![256, 2048]⟩
abbrev S1024x2048 : Shape := ⟨2, ![1024, 2048]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S1x2048, .f32⟩
  | .hbm, ⟨3, _⟩ => ⟨S2048x2048, .bf16⟩
  | .hbm, ⟨4, _⟩ => ⟨S256x2048, .bf16⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1024x2048, .f32⟩
  | .local _ .vmem, ⟨8, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x2048 : Shape := ⟨2, ![32768, 2048]⟩
abbrev S32768x256 : Shape := ⟨2, ![32768, 256]⟩
abbrev S1x2048 : Shape := ⟨2, ![1, 2048]⟩
abbrev S2048x2048 : Shape := ⟨2, ![2048, 2048]⟩
abbrev S256x2048 : Shape := ⟨2, ![256, 2048]⟩
abbrev S_ : Shape := ⟨0, ![]⟩
abbrev S32768 : Shape := ⟨1, ![32768]⟩
abbrev S32768x1 : Shape := ⟨2, ![32768, 1]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S1x2048, .f32⟩
  | .hbm, ⟨3, _⟩ => ⟨S2048x2048, .bf16⟩
  | .hbm, ⟨4, _⟩ => ⟨S256x2048, .bf16⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S2048x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S256x2048, .f32⟩
  | .hbm, ⟨31, _⟩ => ⟨S32768x2048, .f32⟩
  | .hbm, ⟨32, _⟩ => ⟨S32768x2048, .f32⟩
  | .hbm, ⟨33, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel5.lean ====
abbrev S32768x2048 : Shape := ⟨2, ![32768, 2048]⟩
abbrev S2048x14336 : Shape := ⟨2, ![2048, 14336]⟩
abbrev S1x128 : Shape := ⟨2, ![1, 128]⟩
abbrev S32768x1024 : Shape := ⟨2, ![32768, 1024]⟩
abbrev S16x1x2048x1024 : Shape := ⟨4, ![16, 1, 2048, 1024]⟩
abbrev S16x4x512x1024 : Shape := ⟨4, ![16, 4, 512, 1024]⟩
abbrev S16x16x128x1024 : Shape := ⟨4, ![16, 16, 128, 1024]⟩
abbrev S32768x4096 : Shape := ⟨2, ![32768, 4096]⟩
abbrev S256x2048 : Shape := ⟨2, ![256, 2048]⟩
abbrev S2048x1024 : Shape := ⟨2, ![2048, 1024]⟩
abbrev S256x1024 : Shape := ⟨2, ![256, 1024]⟩
abbrev S1x1x256x1024 : Shape := ⟨4, ![1, 1, 256, 1024]⟩
abbrev S1x4x64x1024 : Shape := ⟨4, ![1, 4, 64, 1024]⟩
abbrev S1x16x16x1024 : Shape := ⟨4, ![1, 16, 16, 1024]⟩
abbrev S256x4096 : Shape := ⟨2, ![256, 4096]⟩
abbrev S3x8x256x128 : Shape := ⟨4, ![3, 8, 256, 128]⟩
abbrev S2048x512 : Shape := ⟨2, ![2048, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S2x8x256x128 : Shape := ⟨4, ![2, 8, 256, 128]⟩
abbrev S1x1x256x128 : Shape := ⟨4, ![1, 1, 256, 128]⟩
abbrev S1x1x64x128 : Shape := ⟨4, ![1, 1, 64, 128]⟩
abbrev S64x128 : Shape := ⟨2, ![64, 128]⟩
abbrev S1x1x16x128 : Shape := ⟨4, ![1, 1, 16, 128]⟩
abbrev S16x128 : Shape := ⟨2, ![16, 128]⟩
abbrev S1x8x256x128 : Shape := ⟨4, ![1, 8, 256, 128]⟩

abbrev nBuf : Space → Nat
  | .hbm => 8
  | .vmem => 22
  | .smem => 0
  | _ => 0

abbrev bufTy : (tb : Table) → Fin (tcTables nBuf tb) → BufTy
  | .hbm, ⟨0, _⟩ => ⟨S32768x2048, .bf16⟩
  | .hbm, ⟨1, _⟩ => ⟨S2048x14336, .bf16⟩
  | .hbm, ⟨2, _⟩ => ⟨S1x128, .f32⟩
  | .hbm, ⟨3, _⟩ => ⟨S32768x1024, .f32⟩
  | .hbm, ⟨4, _⟩ => ⟨S16x1x2048x1024, .bf16⟩
  | .hbm, ⟨5, _⟩ => ⟨S16x4x512x1024, .bf16⟩
  | .hbm, ⟨6, _⟩ => ⟨S16x16x128x1024, .bf16⟩
  | .hbm, ⟨7, _⟩ => ⟨S32768x4096, .bf16⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1x128, .f32⟩
  | .local _ .vmem, ⟨11, _⟩ => ⟨S256x1024, .f32⟩
  | .local _ .vmem, ⟨12, _⟩ => ⟨S256x1024, .f32⟩
  | .local _ .vmem, ⟨13, _⟩ => ⟨S1x1x256x1024, .bf16⟩
  | .local _ .vmem, ⟨14, _⟩ => ⟨S1x1x256x1024, .bf16⟩
  | .local _ .vmem, ⟨15, _⟩ => ⟨S1x4x64x1024, .bf16⟩
  | .local _ .vmem, ⟨16, _⟩ => ⟨S1x4x64x1024, .bf16⟩
  | .local _ .vmem, ⟨17, _⟩ => ⟨S1x16x16x1024, .bf16⟩
  | .local _ .vmem, ⟨18, _⟩ => ⟨S1x16x16x1024, .bf16⟩
  | .local _ .vmem, ⟨19, _⟩ => ⟨S256x4096, .bf16⟩
  | .local _ .vmem, ⟨20, _⟩ => ⟨S256x4096, .bf16⟩
  | .local _ .vmem, ⟨21, _⟩ => ⟨S3x8x256x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_6 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_7 (i : grid0.Coords) : Fin 2 → Nat :=
  let arg0 : BitVec 32 := BitVec.ofNat 32 (i 0).val
  let c0_i32 : BitVec 32 := 0#32
  let c12_i32 : BitVec 32 := 12#32
  let c0_i32_0 : BitVec 32 := 0#32
  ![c0_i32.toNat, c12_i32.toNat]

def cc0_transform_8 (i : grid0.Coords) : Fin 2 → Nat :=
  let arg0 : BitVec 32 := BitVec.ofNat 32 (i 0).val
  let c0_i32 : BitVec 32 := 0#32
  let c13_i32 : BitVec 32 := 13#32
  let c0_i32_0 : BitVec 32 := 0#32
  ![c0_i32.toNat, c13_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x16x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S32768x2048 : Shape := ⟨2, ![32768, 2048]⟩
abbrev S2048x14336 : Shape := ⟨2, ![2048, 14336]⟩
abbrev S1x128 : Shape := ⟨2, ![1, 128]⟩
abbrev S32768x14336 : Shape := ⟨2, ![32768, 14336]⟩
abbrev S32768x1024 : Shape := ⟨2, ![32768, 1024]⟩
abbrev S32768x3072 : Shape := ⟨2, ![32768, 3072]⟩
abbrev S32768x4096 : Shape := ⟨2, ![32768, 4096]⟩
abbrev S16x2048x3x8x128 : Shape := ⟨5, ![16, 2048, 3, 8, 128]⟩
abbrev S_ : Shape := ⟨0, ![]⟩
abbrev S16x2048x3x8 : Shape := ⟨4, ![16, 2048, 3, 8]⟩
abbrev S16x2048x3x8x1 : Shape := ⟨5, ![16, 2048, 3, 8, 1]⟩
abbrev S128 : Shape := ⟨1, ![128]⟩
abbrev S1x1x1x1x128 : Shape := ⟨5, ![1, 1, 1, 1, 128]⟩
abbrev S16x2048x1x8x128 : Shape := ⟨5, ![16, 2048, 1, 8, 128]⟩
abbrev S16x2048x8x128 : Shape := ⟨4, ![16, 2048, 8, 128]⟩
abbrev S16x2048x1x1024 : Shape := ⟨4, ![16, 2048, 1, 1024]⟩
abbrev S16x1x2048x1024 : Shape := ⟨4, ![16, 1, 2048, 1024]⟩
abbrev S16x512x4x1024 : Shape := ⟨4, ![16, 512, 4, 1024]⟩
abbrev S16x4x512x1024 : Shape := ⟨4, ![16, 4, 512, 1024]⟩
abbrev S16x128x16x1024 : Shape := ⟨4, ![16, 128, 16, 1024]⟩
abbrev S16x16x128x1024 : Shape := ⟨4, ![16, 16, 128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x14336, .bf16⟩
  | .hbm, ⟨2, _⟩ => ⟨S1x128, .f32⟩
  | .hbm, ⟨3, _⟩ => ⟨S2048x14336, .f32⟩
  | .hbm, ⟨4, _⟩ => ⟨S32768x2048, .f32⟩
  | .hbm, ⟨5, _⟩ => ⟨S32768x14336, .f32⟩
  | .hbm, ⟨6, _⟩ => ⟨S32768x1024, .f32⟩
  | .hbm, ⟨7, _⟩ => ⟨S32768x3072, .f32⟩
  | .hbm, ⟨8, _⟩ => ⟨S32768x4096, .f32⟩
  | .hbm, ⟨9, _⟩ => ⟨S16x2048x3x8x128, .f32⟩
  | .hbm, ⟨10, _⟩ => ⟨S16x2048x3x8x128, .f32⟩
  | .hbm, ⟨11, _⟩ => ⟨S_, .f32⟩
  | .hbm, ⟨12, _⟩ => ⟨S16x2048x3x8, .f32⟩
  | .hbm, ⟨13, _⟩ => ⟨S16x2048x3x8x1, .f32⟩
  | .hbm, ⟨14, _⟩ => ⟨S_, .f32⟩
  | .hbm, ⟨15, _⟩ => ⟨S16x2048x3x8x1, .f32⟩
  | .hbm, ⟨16, _⟩ => ⟨S16x2048x3x8x1, .f32⟩
  | .hbm, ⟨17, _⟩ => ⟨S_, .f32⟩
  | .hbm, ⟨18, _⟩ => ⟨S16x2048x3x8x1, .f32⟩
  | .hbm, ⟨19, _⟩ => ⟨S16x2048x3x8x1, .f32⟩
  | .hbm, ⟨20, _⟩ => ⟨S16x2048x3x8x1, .f32⟩
  | .hbm, ⟨21, _⟩ => ⟨S16x2048x3x8x128, .f32⟩
  | .hbm, ⟨22, _⟩ => ⟨S16x2048x3x8x128, .f32⟩
  | .hbm, ⟨23, _⟩ => ⟨S128, .f32⟩
  | .hbm, ⟨24, _⟩ => ⟨S1x1x1x1x128, .f32⟩
  | .hbm, ⟨25, _⟩ => ⟨S16x2048x3x8x128, .f32⟩
  | .hbm, ⟨26, _⟩ => ⟨S16x2048x3x8x128, .f32⟩
  | .hbm, ⟨27, _⟩ => ⟨S_, .f32⟩
  | .hbm, ⟨28, _⟩ => ⟨S16x2048x3x8x128, .f32⟩
  | .hbm, ⟨29, _⟩ => ⟨S16x2048x3x8x128, .f32⟩
  | .hbm, ⟨30, _⟩ => ⟨S16x2048x1x8x128, .f32⟩
  | .hbm, ⟨31, _⟩ => ⟨S16x2048x8x128, .f32⟩
  | .hbm, ⟨32, _⟩ => ⟨S16x2048x1x1024, .f32⟩
  | .hbm, ⟨33, _⟩ => ⟨S16x1x2048x1024, .f32⟩
  | .hbm, ⟨34, _⟩ => ⟨S16x1x2048x1024, .bf16⟩
  | .hbm, ⟨35, _⟩ => ⟨S16x2048x1x8x128, .f32⟩
  | .hbm, ⟨36, _⟩ => ⟨S16x2048x8x128, .f32⟩
  | .hbm, ⟨37, _⟩ => ⟨S16x512x4x1024, .f32⟩
  | .hbm, ⟨38, _⟩ => ⟨S16x4x512x1024, .f32⟩
  | .hbm, ⟨39, _⟩ => ⟨S16x4x512x1024, .bf16⟩
  | .hbm, ⟨40, _⟩ => ⟨S16x2048x1x8x128, .f32⟩
  | .hbm, ⟨41, _⟩ => ⟨S16x2048x8x128, .f32⟩
  | .hbm, ⟨42, _⟩ => ⟨S16x128x16x1024, .f32⟩
  | .hbm, ⟨43, _⟩ => ⟨S16x16x128x1024, .f32⟩
  | .hbm, ⟨44, _⟩ => ⟨S16x16x128x1024, .bf16⟩
  | .hbm, ⟨45, _⟩ => ⟨S32768x4096, .f32⟩
  | .hbm, ⟨46, _⟩ => ⟨S32768x4096, .f32⟩
  | .hbm, ⟨47, _⟩ => ⟨S_, .f32⟩
  | .hbm, ⟨48, _⟩ => ⟨S32768x4096, .f32⟩
  | .hbm, ⟨49, _⟩ => ⟨S32768x4096, .f32⟩
  | .hbm, ⟨50, _⟩ => ⟨S_, .f32⟩
  | .hbm, ⟨51, _⟩ => ⟨S32768x4096, .f32⟩
  | .hbm, ⟨52, _⟩ => ⟨S32768x4096, .f32⟩
  | .hbm, ⟨53, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Kernel6.lean ====
abbrev S32768x2048 : Shape := ⟨2, ![32768, 2048]⟩
abbrev S2048x14336 : Shape := ⟨2, ![2048, 14336]⟩
abbrev S1x128 : Shape := ⟨2, ![1, 128]⟩
abbrev S16x1x2048x1024 : Shape := ⟨4, ![16, 1, 2048, 1024]⟩
abbrev S16x4x512x1024 : Shape := ⟨4, ![16, 4, 512, 1024]⟩
abbrev S16x16x128x1024 : Shape := ⟨4, ![16, 16, 128, 1024]⟩
abbrev S16x1x1024x128 : Shape := ⟨4, ![16, 1, 1024, 128]⟩
abbrev S16x2x2048x128 : Shape := ⟨4, ![16, 2, 2048, 128]⟩
abbrev S16x8x2048x128 : Shape := ⟨4, ![16, 8, 2048, 128]⟩
abbrev S256x2048 : Shape := ⟨2, ![256, 2048]⟩
abbrev S2048x1024 : Shape := ⟨2, ![2048, 1024]⟩
abbrev S1x1x256x1024 : Shape := ⟨4, ![1, 1, 256, 1024]⟩
abbrev S1x4x64x1024 : Shape := ⟨4, ![1, 4, 64, 1024]⟩
abbrev S1x16x16x1024 : Shape := ⟨4, ![1, 16, 16, 1024]⟩
abbrev S1x1x1024x128 : Shape := ⟨4, ![1, 1, 1024, 128]⟩
abbrev S1x1x2048x128 : Shape := ⟨4, ![1, 1, 2048, 128]⟩
abbrev S2x3x8x256x128 : Shape := ⟨5, ![2, 3, 8, 256, 128]⟩
abbrev S2048x512 : Shape := ⟨2, ![2048, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩
abbrev S1x2x8x256x128 : Shape := ⟨5, ![1, 2, 8, 256, 128]⟩
abbrev S2x8x256x128 : Shape := ⟨4, ![2, 8, 256, 128]⟩
abbrev S1x1x64x128 : Shape := ⟨4, ![1, 1, 64, 128]⟩
abbrev S64x128 : Shape := ⟨2, ![64, 128]⟩
abbrev S1x1x16x128 : Shape := ⟨4, ![1, 1, 16, 128]⟩
abbrev S16x128 : Shape := ⟨2, ![16, 128]⟩
abbrev S1x1x8x256x128 : Shape := ⟨5, ![1, 1, 8, 256, 128]⟩
abbrev S1x8x256x128 : Shape := ⟨4, ![1, 8, 256, 128]⟩
abbrev S128x128 : Shape := ⟨2, ![128, 128]⟩
abbrev S1x1x128x128 : Shape := ⟨4, ![1, 1, 128, 128]⟩
abbrev S256x1024 : Shape := ⟨2, ![256, 1024]⟩

abbrev nBuf : Space → Nat
  | .hbm => 15
  | .vmem => 34
  | .smem => 0
  | _ => 0

abbrev bufTy : (tb : Table) → Fin (tcTables nBuf tb) → BufTy
  | .hbm, ⟨0, _⟩ => ⟨S32768x2048, .bf16⟩
  | .hbm, ⟨1, _⟩ => ⟨S2048x14336, .bf16⟩
  | .hbm, ⟨2, _⟩ => ⟨S1x128, .f32⟩
  | .hbm, ⟨3, _⟩ => ⟨S16x1x2048x1024, .bf16⟩
  | .hbm, ⟨4, _⟩ => ⟨S16x4x512x1024, .bf16⟩
  | .hbm, ⟨5, _⟩ => ⟨S16x16x128x1024, .bf16⟩
  | .hbm, ⟨6, _⟩ => ⟨S16x1x2048x1024, .bf16⟩
  | .hbm, ⟨7, _⟩ => ⟨S16x4x512x1024, .bf16⟩
  | .hbm, ⟨8, _⟩ => ⟨S16x16x128x1024, .bf16⟩
  | .hbm, ⟨9, _⟩ => ⟨S16x1x1024x128, .f32⟩
  | .hbm, ⟨10, _⟩ => ⟨S16x2x2048x128, .f32⟩
  | .hbm, ⟨11, _⟩ => ⟨S16x8x2048x128, .f32⟩
  | .hbm, ⟨12, _⟩ => ⟨S16x1x1024x128, .f32⟩
  | .hbm, ⟨13, _⟩ => ⟨S16x2x2048x128, .f32⟩
  | .hbm, ⟨14, _⟩ => ⟨S16x8x2048x128, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x128, .f32⟩
  | .local _ .vmem, ⟨9, _⟩ => ⟨S1x1x256x1024, .bf16⟩
  | .local _ .vmem, ⟨10, _⟩ => ⟨S1x1x256x1024, .bf16⟩
  | .local _ .vmem, ⟨11, _⟩ => ⟨S1x4x64x1024, .bf16⟩
  | .local _ .vmem, ⟨12, _⟩ => ⟨S1x4x64x1024, .bf16⟩
  | .local _ .vmem, ⟨13, _⟩ => ⟨S1x16x16x1024, .bf16⟩
  | .local _ .vmem, ⟨14, _⟩ => ⟨S1x16x16x1024, .bf16⟩
  | .local _ .vmem, ⟨15, _⟩ => ⟨S1x1x256x1024, .bf16⟩
  | .local _ .vmem, ⟨16, _⟩ => ⟨S1x1x256x1024, .bf16⟩
  | .local _ .vmem, ⟨17, _⟩ => ⟨S1x4x64x1024, .bf16⟩
  | .local _ .vmem, ⟨18, _⟩ => ⟨S1x4x64x1024, .bf16⟩
  | .local _ .vmem, ⟨19, _⟩ => ⟨S1x16x16x1024, .bf16⟩
  | .local _ .vmem, ⟨20, _⟩ => ⟨S1x16x16x1024, .bf16⟩
  | .local _ .vmem, ⟨21, _⟩ => ⟨S1x1x1024x128, .f32⟩
  | .local _ .vmem, ⟨22, _⟩ => ⟨S1x1x1024x128, .f32⟩
  | .local _ .vmem, ⟨23, _⟩ => ⟨S1x1x2048x128, .f32⟩
  | .local _ .vmem, ⟨24, _⟩ => ⟨S1x1x2048x128, .f32⟩
  | .local _ .vmem, ⟨25, _⟩ => ⟨S1x1x2048x128, .f32⟩
  | .local _ .vmem, ⟨26, _⟩ => ⟨S1x1x2048x128, .f32⟩
  | .local _ .vmem, ⟨27, _⟩ => ⟨S1x1x1024x128, .f32⟩
  | .local _ .vmem, ⟨28, _⟩ => ⟨S1x1x1024x128, .f32⟩
  | .local _ .vmem, ⟨29, _⟩ => ⟨S1x1x2048x128, .f32⟩
  | .local _ .vmem, ⟨30, _⟩ => ⟨S1x1x2048x128, .f32⟩
  | .local _ .vmem, ⟨31, _⟩ => ⟨S1x1x2048x128, .f32⟩
  | .local _ .vmem, ⟨32, _⟩ => ⟨S1x1x2048x128, .f32⟩
  | .local _ .vmem, ⟨33, _⟩ => ⟨S2x3x8x256x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v0_9 : Ref sig .tc := ⟨.hbm, 12, rfl⟩
abbrev main_v0_10 : Ref sig .tc := ⟨.hbm, 13, rfl⟩
abbrev main_v0_11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_6 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi v26 c7_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![v16.toNat, v28.toNat, c0_i32_11.toNat, c0_i32_12.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.subi v26 c6_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![v16.toNat, v28.toNat, c0_i32_11.toNat, c0_i32_12.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  let c0_i32_14 : BitVec 32 := 0#32
  ![v16.toNat, v28.toNat, c0_i32_12.toNat, c0_i32_13.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi v26 c7_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![v16.toNat, v28.toNat, c0_i32_11.toNat, c0_i32_12.toNat]

def cc0_transform_18 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.subi v26 c6_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![v16.toNat, v28.toNat, c0_i32_11.toNat, c0_i32_12.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  let c0_i32_14 : BitVec 32 := 0#32
  ![v16.toNat, v28.toNat, c0_i32_12.toNat, c0_i32_13.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x16x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S32768x2048 : Shape := ⟨2, ![32768, 2048]⟩
abbrev S2048x14336 : Shape := ⟨2, ![2048, 14336]⟩
abbrev S1x128 : Shape := ⟨2, ![1, 128]⟩
abbrev S32768x14336 : Shape := ⟨2, ![32768, 14336]⟩
abbrev S32768x3072 : Shape := ⟨2, ![32768, 3072]⟩
abbrev S16x2048x3x8x128 : Shape := ⟨5, ![16, 2048, 3, 8, 128]⟩
abbrev S_ : Shape := ⟨0, ![]⟩
abbrev S16x2048x3x8 : Shape := ⟨4, ![16, 2048, 3, 8]⟩
abbrev S16x2048x3x8x1 : Shape := ⟨5, ![16, 2048, 3, 8, 1]⟩
abbrev S128 : Shape := ⟨1, ![128]⟩
abbrev S1x1x1x1x128 : Shape := ⟨5, ![1, 1, 1, 1, 128]⟩
abbrev S16x2048x1x8x128 : Shape := ⟨5, ![16, 2048, 1, 8, 128]⟩
abbrev S16x2048x8x128 : Shape := ⟨4, ![16, 2048, 8, 128]⟩
abbrev S16x2048x1x1024 : Shape := ⟨4, ![16, 2048, 1, 1024]⟩
abbrev S16x1x2048x1024 : Shape := ⟨4, ![16, 1, 2048, 1024]⟩
abbrev S16x512x4x1024 : Shape := ⟨4, ![16, 512, 4, 1024]⟩
abbrev S16x4x512x1024 : Shape := ⟨4, ![16, 4, 512, 1024]⟩
abbrev S16x128x16x1024 : Shape := ⟨4, ![16, 128, 16, 1024]⟩
abbrev S16x16x128x1024 : Shape := ⟨4, ![16, 16, 128, 1024]⟩
abbrev S16x128x8x128 : Shape := ⟨4, ![16, 128, 8, 128]⟩
abbrev S16x1x1024x128 : Shape := ⟨4, ![16, 1, 1024, 128]⟩
abbrev S16x512x8x128 : Shape := ⟨4, ![16, 512, 8, 128]⟩
abbrev S16x2x2048x128 : Shape := ⟨4, ![16, 2, 2048, 128]⟩
abbrev S16x8x2048x128 : Shape := ⟨4, ![16, 8, 2048, 128]⟩

abbrev nBuf : Space → Nat
  | .hbm => 79
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x14336, .bf16⟩
  | .hbm, ⟨2, _⟩ => ⟨S1x128, .f32⟩
  | .hbm, ⟨3, _⟩ => ⟨S2048x14336, .f32⟩
  | .hbm, ⟨4, _⟩ => ⟨S32768x2048, .f32⟩
  | .hbm, ⟨5, _⟩ => ⟨S32768x14336, .f32⟩
  | .hbm, ⟨6, _⟩ => ⟨S32768x3072, .f32⟩
  | .hbm, ⟨7, _⟩ => ⟨S32768x3072, .f32⟩
  | .hbm, ⟨8, _⟩ => ⟨S16x2048x3x8x128, .f32⟩
  | .hbm, ⟨9, _⟩ => ⟨S16x2048x3x8x128, .f32⟩
  | .hbm, ⟨10, _⟩ => ⟨S16x2048x3x8x128, .f32⟩
  | .hbm, ⟨11, _⟩ => ⟨S_, .f32⟩
  | .hbm, ⟨12, _⟩ => ⟨S16x2048x3x8, .f32⟩
  | .hbm, ⟨13, _⟩ => ⟨S16x2048x3x8x1, .f32⟩
  | .hbm, ⟨14, _⟩ => ⟨S_, .f32⟩
  | .hbm, ⟨15, _⟩ => ⟨S16x2048x3x8x1, .f32⟩
  | .hbm, ⟨16, _⟩ => ⟨S16x2048x3x8x1, .f32⟩
  | .hbm, ⟨17, _⟩ => ⟨S_, .f32⟩
  | .hbm, ⟨18, _⟩ => ⟨S16x2048x3x8x1, .f32⟩
  | .hbm, ⟨19, _⟩ => ⟨S16x2048x3x8x1, .f32⟩
  | .hbm, ⟨20, _⟩ => ⟨S16x2048x3x8x1, .f32⟩
  | .hbm, ⟨21, _⟩ => ⟨S16x2048x3x8x128, .f32⟩
  | .hbm, ⟨22, _⟩ => ⟨S16x2048x3x8x128, .f32⟩
  | .hbm, ⟨23, _⟩ => ⟨S128, .f32⟩
  | .hbm, ⟨24, _⟩ => ⟨S1x1x1x1x128, .f32⟩
  | .hbm, ⟨25, _⟩ => ⟨S16x2048x3x8x128, .f32⟩
  | .hbm, ⟨26, _⟩ => ⟨S16x2048x3x8x128, .f32⟩
  | .hbm, ⟨27, _⟩ => ⟨S16x2048x1x8x128, .f32⟩
  | .hbm, ⟨28, _⟩ => ⟨S16x2048x8x128, .f32⟩
  | .hbm, ⟨29, _⟩ => ⟨S16x2048x1x1024, .f32⟩
  | .hbm, ⟨30, _⟩ => ⟨S16x1x2048x1024, .f32⟩
  | .hbm, ⟨31, _⟩ => ⟨S16x1x2048x1024, .bf16⟩
  | .hbm, ⟨32, _⟩ => ⟨S16x2048x1x8x128, .f32⟩
  | .hbm, ⟨33, _⟩ => ⟨S16x2048x8x128, .f32⟩
  | .hbm, ⟨34, _⟩ => ⟨S16x512x4x1024, .f32⟩
  | .hbm, ⟨35, _⟩ => ⟨S16x4x512x1024, .f32⟩
  | .hbm, ⟨36, _⟩ => ⟨S16x4x512x1024, .bf16⟩
  | .hbm, ⟨37, _⟩ => ⟨S16x2048x1x8x128, .f32⟩
  | .hbm, ⟨38, _⟩ => ⟨S16x2048x8x128, .f32⟩
  | .hbm, ⟨39, _⟩ => ⟨S16x128x16x1024, .f32⟩
  | .hbm, ⟨40, _⟩ => ⟨S16x16x128x1024, .f32⟩
  | .hbm, ⟨41, _⟩ => ⟨S16x16x128x1024, .bf16⟩
  | .hbm, ⟨42, _⟩ => ⟨S16x2048x1x8x128, .f32⟩
  | .hbm, ⟨43, _⟩ => ⟨S16x2048x8x128, .f32⟩
  | .hbm, ⟨44, _⟩ => ⟨S16x2048x1x1024, .f32⟩
  | .hbm, ⟨45, _⟩ => ⟨S16x1x2048x1024, .f32⟩
  | .hbm, ⟨46, _⟩ => ⟨S16x1x2048x1024, .bf16⟩
  | .hbm, ⟨47, _⟩ => ⟨S16x2048x1x8x128, .f32⟩
  | .hbm, ⟨48, _⟩ => ⟨S16x2048x8x128, .f32⟩
  | .hbm, ⟨49, _⟩ => ⟨S16x512x4x1024, .f32⟩
  | .hbm, ⟨50, _⟩ => ⟨S16x4x512x1024, .f32⟩
  | .hbm, ⟨51, _⟩ => ⟨S16x4x512x1024, .bf16⟩
  | .hbm, ⟨52, _⟩ => ⟨S16x2048x1x8x128, .f32⟩
  | .hbm, ⟨53, _⟩ => ⟨S16x2048x8x128, .f32⟩
  | .hbm, ⟨54, _⟩ => ⟨S16x128x16x1024, .f32⟩
  | .hbm, ⟨55, _⟩ => ⟨S16x16x128x1024, .f32⟩
  | .hbm, ⟨56, _⟩ => ⟨S16x16x128x1024, .bf16⟩
  | .hbm, ⟨57, _⟩ => ⟨S16x2048x1x8x128, .f32⟩
  | .hbm, ⟨58, _⟩ => ⟨S16x2048x8x128, .f32⟩
  | .hbm, ⟨59, _⟩ => ⟨S16x128x8x128, .f32⟩
  | .hbm, ⟨60, _⟩ => ⟨S16x1x1024x128, .f32⟩
  | .hbm, ⟨61, _⟩ => ⟨S16x2048x1x8x128, .f32⟩
  | .hbm, ⟨62, _⟩ => ⟨S16x2048x8x128, .f32⟩
  | .hbm, ⟨63, _⟩ => ⟨S16x512x8x128, .f32⟩
  | .hbm, ⟨64, _⟩ => ⟨S16x2x2048x128, .f32⟩
  | .hbm, ⟨65, _⟩ => ⟨S16x2048x1x8x128, .f32⟩
  | .hbm, ⟨66, _⟩ => ⟨S16x2048x8x128, .f32⟩
  | .hbm, ⟨67, _⟩ => ⟨S16x8x2048x128, .f32⟩
  | .hbm, ⟨68, _⟩ => ⟨S16x2048x1x8x128, .f32⟩
  | .hbm, ⟨69, _⟩ => ⟨S16x2048x8x128, .f32⟩
  | .hbm, ⟨70, _⟩ => ⟨S16x128x8x128, .f32⟩
  | .hbm, ⟨71, _⟩ => ⟨S16x1x1024x128, .f32⟩
  | .hbm, ⟨72, _⟩ => ⟨S16x2048x1x8x128, .f32⟩
  | .hbm, ⟨73, _⟩ => ⟨S16x2048x8x128, .f32⟩
  | .hbm, ⟨74, _⟩ => ⟨S16x512x8x128, .f32⟩
  | .hbm, ⟨75, _⟩ => ⟨S16x2x2048x128, .f32⟩
  | .hbm, ⟨76, _⟩ => ⟨S16x2048x1x8x128, .f32⟩
  | .hbm, ⟨77, _⟩ => ⟨S16x2048x8x128, .f32⟩
  | .hbm, ⟨78, _⟩ => ⟨S16x8x2048x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩

abbrev nD : Nat := 1
abbrev τ : Topo := Topo.v7x

variable {F : FTy → Type} [FloatOps F]
-- ==== Proof.RowSums.lean ====
/- Arithmetic of extended reals used by every value claim here: a nonnegative finite factor moves through a finite
   sum; one half is such a factor. -/
module

public import Idealize.ShloMosaic.Lib.Pipeline.ValueKit

@[expose] public section

noncomputable section

namespace Cert.RowSums

open Idealize.ShloMosaic

/-- A factor that is not negative and not infinite distributes over a finite sum of extended reals. -/
theorem mul_sum_of_nonneg {ι : Type} (s : Finset ι) (a : EReal) (h0 : 0 ≤ a) (ht : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- The f32 word of one half is the real number one half. -/
theorem half_word : Ideal.ofBits .f32 0x3F000000#32 = (((1 : ℝ) / 2 : ℝ) : EReal) := by
  simp [Ideal.ofBits, Ideal.ieee, -EReal.coe_mul]; norm_num

theorem half_nonneg : (0 : EReal) ≤ Ideal.ofBits .f32 0x3F000000#32 := by
  rw [half_word]; exact EReal.coe_nonneg.mpr (by norm_num)

theorem half_ne_top : Ideal.ofBits .f32 0x3F000000#32 ≠ ⊤ := by
  rw [half_word]; exact EReal.coe_ne_top _

end Cert.RowSums

end
-- ==== Proof.FfnRows.lean ====
/- The gated feed-forward step on rows, as plain functions of extended reals: the normalised row, the gated hidden unit,
   and the law that the step summed in tiles of the hidden width is the step summed at once. -/
module

public import proofs.«01_k».proof.Proof.RowSums

@[expose] public section

noncomputable section

namespace Cert.FfnRows

open Idealize.ShloMosaic Cert.RowSums

/-- One entry of a row divided by its root mean square (the two words are the row's length and the small term under the
    root), times the gain. -/
def rms {n : ℕ} (len eps : EReal) (x g : Fin n → EReal) (d : Fin n) : EReal :=
  x d * Ideal.rsqrt (Ideal.div (∑ e, x e * x e) len + eps) * g d

/-- The row's length, 2048, and the small term under the root, as the two programs write them. -/
abbrev len : EReal := Ideal.ofBits FTy.f32 0x45000000#32
abbrev eps : EReal := Ideal.ofBits FTy.f32 0x358637BD#32
abbrev half : EReal := Ideal.ofBits FTy.f32 0x3F000000#32

/-- A hidden unit of one row: the row against the unit's gate column and against its value column. -/
def unit {n : ℕ} (y wa wb : Fin n → EReal) : EReal :=
  (∑ k, y k * wa k) * Ideal.logistic (∑ k, y k * wa k) * ∑ k, y k * wb k

/-- Lane `k` of tile `s` lies below the whole width. -/
theorem tile_lt {L S n : ℕ} (hL : L = S * n) (s : Fin S) (k : Fin n) : s.val * n + k.val < L := by
  subst hL
  calc s.val * n + k.val < s.val * n + n := Nat.add_lt_add_left k.isLt _
    _ = (s.val + 1) * n := (Nat.succ_mul _ _).symm
    _ ≤ S * n := Nat.mul_le_mul_right n s.isLt

/-- Half of the sum over the hidden width is the sum, tile by tile, of the halved units. -/
theorem half_sum (L S n : ℕ) (hL : L = S * n) (u w : Fin L → EReal) :
    half * ∑ l, u l * w l
      = ∑ s : Fin S, ∑ k : Fin n, half * u ⟨s.val * n + k.val, tile_lt hL s k⟩
          * w ⟨s.val * n + k.val, tile_lt hL s k⟩ := by
  rw [mul_sum_of_nonneg _ _ half_nonneg half_ne_top]
  symm
  refine Fin.sum_mul_add_congr (fun s k hl => ?_) hL
  rw [mul_assoc]

/-! ## One tile of the hidden width, and a walk over all eleven -/

/-- What tile `s` of the hidden width adds to column `d`: `y` the scaled row, `W` the two input weights side by side,
    `V` the output weight. -/
def tilePart (y : Fin 2048 → EReal) (W : Fin 2048 → Fin 11264 → EReal) (V : Fin 5632 → Fin 2048 → EReal) (s : ℕ)
    (d : Fin 2048) : EReal :=
  ∑ k : Fin 512, half * unit y (fun e => W e ⟨s % 11 * 512 + k.val, by omega⟩)
      (fun e => W e ⟨5632 + (s % 11 * 512 + k.val), by omega⟩) * V ⟨s % 11 * 512 + k.val, by omega⟩ d

/-- The whole step at one entry of the row `x`. -/
def step (x y : Fin 2048 → EReal) (W : Fin 2048 → Fin 11264 → EReal) (V : Fin 5632 → Fin 2048 → EReal) (d : Fin 2048) :
    EReal :=
  x d + half * ∑ l : Fin 5632, unit y (fun e => W e ⟨l.val, by omega⟩) (fun e => W e ⟨5632 + l.val, by omega⟩) * V l d

/-- The step is the entry plus its eleven tiles. -/
theorem step_tiles (x y : Fin 2048 → EReal) (W : Fin 2048 → Fin 11264 → EReal) (V : Fin 5632 → Fin 2048 → EReal)
    (d : Fin 2048) : step x y W V d = x d + ∑ s ∈ Finset.range 11, tilePart y W V s d := by
  unfold step
  rw [half_sum 5632 11 512 rfl, Finset.sum_range]
  refine Ideal.add_congr rfl ?_
  refine Fin.sum_fin_congr fun s => ?_
  unfold tilePart
  simp only [Nat.mod_eq_of_lt s.isLt]

/-- A quantity that starts afresh at every eleventh point and grows by a tile at each: what it holds at a point. -/
theorem walk {N : ℕ} (f : (n : ℕ) → n < N → EReal) (base : ℕ → EReal) (p : ℕ → ℕ → EReal)
    (h0 : ∀ n h, n % 11 = 0 → f n h = base (n / 11) + p (n / 11) 0)
    (hs : ∀ n h, ¬n % 11 = 0 → f n h = f (n - 1) (Nat.lt_of_le_of_lt (Nat.sub_le _ _) h) + p (n / 11) (n % 11)) :
    ∀ n h, f n h = base (n / 11) + ∑ s ∈ Finset.range (n % 11 + 1), p (n / 11) s := by
  intro n
  induction n with
  | zero => intro h; rw [h0 0 h rfl]; simp
  | succ n ih =>
    intro h
    by_cases e : (n + 1) % 11 = 0
    · rw [h0 _ h e, e, Finset.sum_range_one]
    · have e1 : (n + 1) / 11 = n / 11 := by omega
      have e2 : (n + 1) % 11 = n % 11 + 1 := by omega
      rw [hs _ h e, e1, e2, Finset.sum_range_succ _ (n % 11 + 1), ← add_assoc]
      exact Ideal.add_congr (ih (Nat.lt_of_succ_lt h)) rfl

/-- Row `r` of row tile `q`, in the array of all rows. -/
def tileRow (q : ℕ) (r : Fin 1024) : Fin 32768 := ⟨(1024 * q + r.val) % 32768, Nat.mod_lt _ (by decide)⟩

theorem tileRow_val (n : ℕ) (h : n < 352) (r : Fin 1024) : (tileRow (n / 11) r).val = 1024 * (n / 11) + r.val := by
  unfold tileRow; dsimp only; omega

end Cert.FfnRows

end
-- ==== Proof.Ffn2Ref.lean ====
/- The reference of the second feed-forward step: its composed term, read at an index. -/
module

public import proofs.«01_k».proof.Proof.Gen.Reference2Ideal.Run
public import proofs.«01_k».proof.Proof.FfnRows

@[expose] public section

set_option maxRecDepth 16384

noncomputable section

namespace Cert.Ffn2

open Idealize.ShloMosaic Idealize.ShloMosaic.TcCoe
open Cert.Reference2Ideal Cert.Reference2Ideal.Gen Cert.FfnRows

/-- The normalised rows against the whole input weight: gate columns first, value columns after them. -/
def pre (X0 : FVec Ideal S32768x2048 .f32) (X1 : FVec Ideal S1x2048 .f32) (X2 : FVec Ideal S2048x11264 .bf16) :
    FVec Ideal S32768x11264 .f32 :=
  Host.dotGeneral dot_S32768x2048_S2048x11264_S32768x11264_1_0_0_1_n_n none (mulf (mulf X0 (broadcastInDim S32768x2048 ![0, 1] bcast_S32768x1_S32768x2048_0_1 (Host.rsqrt (addf (Host.divf (broadcastInDim S32768x1 ![0] bcast_S32768_S32768x1_0 (Host.reduceAdd (mulf X0 X0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 X1)) (extf .f32 X2 bitsLt_bf16_f32)

/-- The reference's result over its arguments. -/
def REF (X0 : FVec Ideal S32768x2048 .f32) (X1 : FVec Ideal S1x2048 .f32) (X2 : FVec Ideal S2048x11264 .bf16)
    (X3 : FVec Ideal S5632x2048 .bf16) : FVec Ideal S32768x2048 .f32 :=
  addf X0 (mulf (broadcastInDim S32768x2048 ![] bcast_S_S32768x2048 (constant S_ .f32 0x3F000000#32)) (Host.dotGeneral dot_S32768x5632_S5632x2048_S32768x2048_1_0_0_1_n_n none (mulf (mulf (extractStridedSlice S32768x5632 ![0, 0] (pre X0 X1 X2) slices_S32768x11264_S32768x5632_0_0) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (extractStridedSlice S32768x5632 ![0, 0] (pre X0 X1 X2) slices_S32768x11264_S32768x5632_0_0)))))) (extractStridedSlice S32768x5632 ![0, 5632] (pre X0 X1 X2) slices_S32768x11264_S32768x5632_0_5632)) (extf .f32 X3 bitsLt_bf16_f32)))

theorem pre_at (X0 : FVec Ideal S32768x2048 .f32) (X1 : FVec Ideal S1x2048 .f32) (X2 : FVec Ideal S2048x11264 .bf16)
    (r : Fin 32768) (l : Fin 11264) :
    pre X0 X1 X2 (ix2 r l)
      = ∑ k : Fin 2048, rms len eps (fun e => X0 (ix2 r e)) (fun e => X1 (ix2 0 e)) k * X2 (ix2 k l) := by
  pointwise! [pre, rms]

/-- The reference at an index: the step on that row. -/
theorem ref_at (X0 : FVec Ideal S32768x2048 .f32) (X1 : FVec Ideal S1x2048 .f32) (X2 : FVec Ideal S2048x11264 .bf16)
    (X3 : FVec Ideal S5632x2048 .bf16) (r : Fin 32768) (d : Fin 2048) :
    REF X0 X1 X2 X3 (ix2 r d)
      = step (fun e => X0 (ix2 r e)) (rms len eps (fun e => X0 (ix2 r e)) (fun e => X1 (ix2 0 e)))
          (fun k l => X2 (ix2 k l)) (fun l d => X3 (ix2 l d)) d := by
  unfold step
  pointwise [REF, pre_at, unit, Ideal.logistic]

end Cert.Ffn2

end
-- ==== Proof.Ffn2.lean ====
/- The second feed-forward step: the result array after the run is the reference's term. -/
module

public import proofs.«01_k».proof.Proof.Gen.Kernel2Ideal.Frame
public import proofs.«01_k».proof.Proof.Ffn2Ref
public import Idealize.ShloMosaic.Lib.Claim
public import Idealize.ShloMosaic.Lib.Pipeline.ReadBack

@[expose] public section

set_option maxRecDepth 16384

noncomputable section

namespace Cert.Ffn2

open Idealize.ShloMosaic Idealize.ShloMosaic.TcCoe Idealize.SL.Sem
open Idealize.ShloMosaic.Pipeline (Dat)
open Cert.Kernel2Ideal Cert.Kernel2Ideal.Gen Cert.FfnRows Cert.RowSums

variable (m : (ℓ : Loc nD τ sig) → Buf (Elt Ideal) ℓ)

/-- What the first point of a run stores in the scratch: the normalised rows. -/
theorem norm_at (x : FVec Ideal S1024x2048 .f32) (g : FVec Ideal S1x2048 .f32) (r : Fin 1024) (d : Fin 2048) :
    k0_pay1 (F := Ideal) x g (ix2 r d) = rms len eps (fun e => x (ix2 r e)) (fun e => g (ix2 0 e)) d := by
  pointwise! [k0_pay1, rms]

/-- What every point adds to the result block: its tile of the hidden width. -/
theorem add_at (xn : FVec Ideal S1024x2048 .bf16) (wa wb : FVec Ideal S2048x512 .bf16) (acc : FVec Ideal S1024x2048 .f32)
    (wo : FVec Ideal S512x2048 .bf16) (r : Fin 1024) (d : Fin 2048) :
    k0_pay2 (F := Ideal) xn wa wb acc wo (ix2 r d)
      = acc (ix2 r d) + ∑ k : Fin 512, half * unit (fun e => xn (ix2 r e)) (fun e => wa (ix2 e k)) (fun e => wb (ix2 e k))
          * wo (ix2 k d) := by
  pointwise [k0_pay2, unit]
  simp only [mul_assoc]

/-- Every window's block index: the row tile is the point's run, the hidden tile its place in the run. -/
theorem idx : ∀ t : Fin cfg0.N, win0_0.index t = ![t.val / 11, 0] ∧ win0_1.index t = ![0, 0]
    ∧ win0_2.index t = ![0, t.val % 11] ∧ win0_3.index t = ![0, t.val % 11 + 11] ∧ win0_4.index t = ![t.val % 11, 0]
    ∧ win0_5.index t = ![t.val / 11, 0] := (by decide +kernel : ∀ t : Fin grid0.N, _)

/-- The arguments, as the kernel finds them. -/
abbrev X (c : Dev nD) : FVec Ideal S32768x2048 .f32 := m ((c : Thread nD τ).loc main_arg0)
abbrev G (c : Dev nD) : FVec Ideal S1x2048 .f32 := m ((c : Thread nD τ).loc main_arg1)
abbrev W (c : Dev nD) : FVec Ideal S2048x11264 .bf16 := m ((c : Thread nD τ).loc main_arg2)
abbrev V2 (c : Dev nD) : FVec Ideal S5632x2048 .bf16 := m ((c : Thread nD τ).loc main_arg3)

theorem N_val : cfg0.N = 352 := N_0

theorem blk_x (c : Dev nD) (t : Fin cfg0.N) (r : Fin 1024) (e : Fin 2048) :
    (show FVec Ideal S1024x2048 .f32 from iblk m c 0 t) (ix2 r e) = X m c (ix2 (tileRow (t.val / 11) r) e) := by
  have h := tileRow_val t.val (N_val ▸ t.isLt) r
  blk_ext [iblk, V, idx t, h]

theorem blk_g (c : Dev nD) (t : Fin cfg0.N) (e : Fin 2048) :
    (show FVec Ideal S1x2048 .f32 from iblk m c 1 t) (ix2 0 e) = G m c (ix2 0 e) := by
  blk_ext [iblk, V, idx t]

theorem blk_a (c : Dev nD) (t : Fin cfg0.N) (e : Fin 2048) (k : Fin 512) :
    (show FVec Ideal S2048x512 .bf16 from iblk m c 2 t) (ix2 e k)
      = W m c (ix2 e (⟨t.val % 11 * 512 + k.val, by omega⟩ : Fin 11264)) := by
  blk_ext [iblk, V, idx t]

theorem blk_b (c : Dev nD) (t : Fin cfg0.N) (e : Fin 2048) (k : Fin 512) :
    (show FVec Ideal S2048x512 .bf16 from iblk m c 3 t) (ix2 e k)
      = W m c (ix2 e (⟨5632 + (t.val % 11 * 512 + k.val), by omega⟩ : Fin 11264)) := by
  blk_ext [iblk, V, idx t]

theorem blk_o (c : Dev nD) (t : Fin cfg0.N) (k : Fin 512) (d : Fin 2048) :
    (show FVec Ideal S512x2048 .bf16 from iblk m c 4 t) (ix2 k d)
      = V2 m c (ix2 (⟨t.val % 11 * 512 + k.val, by omega⟩ : Fin 5632) d) := by
  blk_ext [iblk, V, idx t]

/-- The normalised row of the array at row `i`. -/
def nrm (c : Dev nD) (i : Fin 32768) (d : Fin 2048) : EReal :=
  rms len eps (fun e => X m c (ix2 i e)) (fun e => G m c (ix2 0 e)) d

/-- The scratch holds the run's normalised rows after every point of the run. -/
theorem carried (c : Dev nD) : ∀ (n : ℕ) (h : n < cfg0.N) (r : Fin 1024) (d : Fin 2048),
    (show FVec Ideal S1024x2048 .bf16 from (outsAt0 m c n h).2) (ix2 r d) = nrm m c (tileRow (n / 11) r) d := by
  have first : ∀ (t : Fin cfg0.N), t.val % 11 = 0 → ∀ (r : Fin 1024) (d : Fin 2048),
      (show FVec Ideal S1024x2048 .bf16 from (outsAt0 m c t.val t.isLt).2) (ix2 r d) = nrm m c (tileRow (t.val / 11) r) d := by
    intro t ht r d
    rw [outsAt0_A m c t ht]
    frame_out
    rw [norm_at]
    unfold nrm
    congr 1
    · funext e; exact blk_x m c t r e
    · funext e; exact blk_g m c t e
  intro n
  induction n with
  | zero => intro h; exact first ⟨0, h⟩ rfl
  | succ n ih =>
    intro h r d
    by_cases hn : (n + 1) % 11 = 0
    · exact first ⟨n + 1, h⟩ hn r d
    · rw [outsAt0_B m c ⟨n + 1, h⟩ hn]
      frame_out
      refine (ih (by omega) r d).trans ?_
      have e : (n + 1) / 11 = n / 11 := by omega
      rw [e]

/-- Tile `s` of the hidden width's part of row `i`. -/
def part (c : Dev nD) (i : Fin 32768) : ℕ → Fin 2048 → EReal :=
  tilePart (nrm m c i) (fun e l => W m c (ix2 e l)) (fun l d => V2 m c (ix2 l d))

/-- A point's payload over its blocks is what it finds in the result's buffer plus its part. -/
theorem add_blk (c : Dev nD) (t : Fin cfg0.N) (xn : FVec Ideal S1024x2048 .bf16) (acc : FVec Ideal S1024x2048 .f32)
    (hxn : ∀ r d, xn (ix2 r d) = nrm m c (tileRow (t.val / 11) r) d) (r : Fin 1024) (d : Fin 2048) :
    k0_pay2 (F := Ideal) xn (iblk m c 2 t) (iblk m c 3 t) acc (iblk m c 4 t) (ix2 r d)
      = acc (ix2 r d) + part m c (tileRow (t.val / 11) r) (t.val % 11) d := by
  rw [add_at]
  unfold part tilePart
  congr 1
  refine Finset.sum_congr rfl fun k _ => ?_
  have e11 : t.val % 11 % 11 = t.val % 11 := Nat.mod_mod _ _
  simp only [e11]
  refine Ideal.mul_congr (Ideal.mul_congr rfl ?_) (blk_o m c t k d)
  congr 1
  · funext e; exact hxn r e
  · funext e; exact blk_a m c t e k
  · funext e; exact blk_b m c t e k

/-- The result's buffer after every point: the row tile plus the parts of the run so far. -/
theorem running (c : Dev nD) (r : Fin 1024) (d : Fin 2048) (n : ℕ) (h : n < cfg0.N) :
    (show FVec Ideal S1024x2048 .f32 from (outsAt0 m c n h).1) (ix2 r d)
      = X m c (ix2 (tileRow (n / 11) r) d) + ∑ s ∈ Finset.range (n % 11 + 1), part m c (tileRow (n / 11) r) s d := by
  refine walk (fun n h => (show FVec Ideal S1024x2048 .f32 from (outsAt0 m c n h).1) (ix2 r d))
    (fun q => X m c (ix2 (tileRow q r) d)) (fun q s => part m c (tileRow q r) s d) (fun n h hn => ?_) (fun n h hn => ?_) n h
  · have hst := outsAt0_A m c ⟨n, h⟩ hn
    dsimp only at hst ⊢
    rw [hst]
    frame_out
    refine (add_blk m c ⟨n, h⟩ _ _ (fun r d => (norm_at _ _ r d).trans (by
      unfold nrm
      congr 1
      · funext e; exact blk_x m c ⟨n, h⟩ r e
      · funext e; exact blk_g m c ⟨n, h⟩ e)) r d).trans ?_
    dsimp only
    rw [hn]
    exact Ideal.add_congr (blk_x m c ⟨n, h⟩ r d) rfl
  · have hp : n - 1 < cfg0.N := Nat.lt_of_le_of_lt (Nat.sub_le _ _) h
    have hst := outsAt0_B m c ⟨n, h⟩ hn
    dsimp only at hst ⊢
    rw [hst]
    frame_out
    simp only [read_unread_whole]
    refine add_blk m c ⟨n, h⟩ (outsAt0 m c (n - 1) hp).2 (outsAt0 m c (n - 1) hp).1 (fun r d => ?_) r d
    have e : n / 11 = (n - 1) / 11 := by omega
    dsimp only
    rw [e]
    exact carried m c (n - 1) hp r d

/-- The result array after the run is the reference's term of the arguments. -/
theorem final (c : Dev nD) : (dats m 0 c).arrAt 5 (cfgs 0).N = REF (X m c) (G m c) (W m c) (V2 m c) := by
  refine (dats m 0 c).arrAt_eq_of_covers 5 _ (by decide +kernel) fun t hf y => ?_
  blk_simp
  rw [after0_5]
  have ht : t.val % 11 = 10 := (flush0_5 t).mp hf
  idx_vars y
  have h := tileRow_val t.val (N_val ▸ t.isLt) y0
  have hi : ((View.whole main_v0).slice (win0_5.rect t)).emb (ix2 y0 y1) = ix2 (tileRow (t.val / 11) y0) y1 := by
    blk_ext [idx t, h]
  rw [hi, ref_at, step_tiles]
  refine (running m c y0 y1 t.val t.isLt).trans ?_
  rw [ht]
  rfl

end Cert.Ffn2

end
-- ==== Proof.Ffn1Body.lean ====
module

public import proofs.«01_k».proof.Proof.Gen.Kernel3Ideal.Frame
public import proofs.«01_k».proof.Proof.Gen.Kernel3Ideal.Points
public import Idealize.ShloMosaic.Lib.Pipeline.ValueKit
public import Idealize.ShloMosaic.Lib.Pipeline.TableIdle
public import Idealize.ShloMosaic.Lib.VecWindow
public import proofs.«01_k».proof.Proof.Gen.Kernel3Ideal.Skeleton

@[expose] public section

set_option maxRecDepth 16384

/-! # The first swiglu call's body, run at each kind of grid point

The grid walks thirty-two row tiles and, within a tile, eleven chunks of the hidden width. The float output's block
gathers the tile's sum over the chunks; the narrow output's block first holds the scaled rows the chunks are multiplied
by and, at the last chunk, is overwritten with the next layer's scaled rows. -/

noncomputable section

namespace Cert.Ffn1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The point is the first of its row tile. -/
abbrev AtFirst (i : grid0.Coords) : Prop := (Scalar.cmpi .ne (Scalar.extui (Scalar.cmpi .eq (BitVec.ofNat 32 (i 1).val) 0#32)) 0#32) = 1#1

/-- The point is the last of its row tile. -/
abbrev AtLast (i : grid0.Coords) : Prop := (Scalar.cmpi .ne (Scalar.extui (Scalar.cmpi .eq (BitVec.ofNat 32 (i 1).val) 10#32)) 0#32) = 1#1

set_option maxHeartbeats 1600000 in
/-- At a tile's first chunk: the narrow block takes the scaled rows, the float block the rows plus the first chunk. -/
theorem body_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (hc0 : AtFirst i) (hc1 : ¬AtLast i)
    (x : Vec F S1024x2048 .f32) (g : Vec F S1x2048 .f32) (wa : Vec F S2048x512 .bf16) (wb : Vec F S2048x512 .bf16) (wo : Vec F S512x2048 .bf16) (gn : Vec F S1x2048 .f32) (E : Set ℕ) (K : PUnit → sProp 𝕄) :
    iprop(owns (c : Thread nD τ) arg2 fullShare x ∗ owns (c : Thread nD τ) arg3 fullShare g ∗ owns (c : Thread nD τ) arg4 fullShare wa ∗ owns (c : Thread nD τ) arg5 fullShare wb ∗ owns (c : Thread nD τ) arg6 fullShare wo ∗ owns (c : Thread nD τ) arg7 fullShare gn ∗ (∃ d, owns (c : Thread nD τ) arg8 fullShare d) ∗ (∃ d, owns (c : Thread nD τ) arg9 fullShare d)
        ∗ (iprop(owns (c : Thread nD τ) arg2 fullShare x ∗ owns (c : Thread nD τ) arg3 fullShare g ∗ owns (c : Thread nD τ) arg4 fullShare wa ∗ owns (c : Thread nD τ) arg5 fullShare wb ∗ owns (c : Thread nD τ) arg6 fullShare wo ∗ owns (c : Thread nD τ) arg7 fullShare gn ∗ owns (c : Thread nD τ) arg8 fullShare (k0_pay2 (k0_pay1 x g) wa wb x wo) ∗ owns (c : Thread nD τ) arg9 fullShare (k0_pay1 x g)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_; frame_open; simp (disch := decide) only [View.ld_unit_lit', View.readCov_unit_lit', View.readCov_cons_unit_lit', View.readAt_eq_ld, Memref.IsWhole.read_unread]
  iexists _; isplitr
  swap; · iexact H7
  ipureintro
  refine (View.read_writes_full _ _ _ _ _).trans ?_; frame_open; simp (disch := decide) only [View.ld_unit_lit', View.readCov_unit_lit', View.readCov_cons_unit_lit', View.readAt_eq_ld, Memref.IsWhole.read_unread]

set_option maxHeartbeats 1600000 in
/-- At a middle chunk: the float block gains the chunk, the narrow block stays. -/
theorem body_mid (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (hc0 : ¬AtFirst i) (hc1 : ¬AtLast i)
    (x : Vec F S1024x2048 .f32) (g : Vec F S1x2048 .f32) (wa : Vec F S2048x512 .bf16) (wb : Vec F S2048x512 .bf16) (wo : Vec F S512x2048 .bf16) (gn : Vec F S1x2048 .f32) (o : Vec F S1024x2048 .f32) (u : Vec F S1024x2048 .bf16) (E : Set ℕ) (K : PUnit → sProp 𝕄) :
    iprop(owns (c : Thread nD τ) arg2 fullShare x ∗ owns (c : Thread nD τ) arg3 fullShare g ∗ owns (c : Thread nD τ) arg4 fullShare wa ∗ owns (c : Thread nD τ) arg5 fullShare wb ∗ owns (c : Thread nD τ) arg6 fullShare wo ∗ owns (c : Thread nD τ) arg7 fullShare gn ∗ owns (c : Thread nD τ) arg8 fullShare o ∗ owns (c : Thread nD τ) arg9 fullShare u
        ∗ (iprop(owns (c : Thread nD τ) arg2 fullShare x ∗ owns (c : Thread nD τ) arg3 fullShare g ∗ owns (c : Thread nD τ) arg4 fullShare wa ∗ owns (c : Thread nD τ) arg5 fullShare wb ∗ owns (c : Thread nD τ) arg6 fullShare wo ∗ owns (c : Thread nD τ) arg7 fullShare gn ∗ owns (c : Thread nD τ) arg8 fullShare (k0_pay2 u wa wb o wo) ∗ owns (c : Thread nD τ) arg9 fullShare (u)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_; frame_open; simp (disch := decide) only [View.ld_unit_lit', View.readCov_unit_lit', View.readCov_cons_unit_lit', View.readAt_eq_ld, Memref.IsWhole.read_unread]
  iexists _; isplitr
  swap; · iexact H7
  ipureintro
  exact harg9.read_unread _

set_option maxHeartbeats 1600000 in
/-- At the last chunk: the float block gains the chunk, and the narrow block takes the sum's scaled rows. -/
theorem body_last (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (hc0 : ¬AtFirst i) (hc1 : AtLast i)
    (x : Vec F S1024x2048 .f32) (g : Vec F S1x2048 .f32) (wa : Vec F S2048x512 .bf16) (wb : Vec F S2048x512 .bf16) (wo : Vec F S512x2048 .bf16) (gn : Vec F S1x2048 .f32) (o : Vec F S1024x2048 .f32) (u : Vec F S1024x2048 .bf16) (E : Set ℕ) (K : PUnit → sProp 𝕄) :
    iprop(owns (c : Thread nD τ) arg2 fullShare x ∗ owns (c : Thread nD τ) arg3 fullShare g ∗ owns (c : Thread nD τ) arg4 fullShare wa ∗ owns (c : Thread nD τ) arg5 fullShare wb ∗ owns (c : Thread nD τ) arg6 fullShare wo ∗ owns (c : Thread nD τ) arg7 fullShare gn ∗ owns (c : Thread nD τ) arg8 fullShare o ∗ owns (c : Thread nD τ) arg9 fullShare u
        ∗ (iprop(owns (c : Thread nD τ) arg2 fullShare x ∗ owns (c : Thread nD τ) arg3 fullShare g ∗ owns (c : Thread nD τ) arg4 fullShare wa ∗ owns (c : Thread nD τ) arg5 fullShare wb ∗ owns (c : Thread nD τ) arg6 fullShare wo ∗ owns (c : Thread nD τ) arg7 fullShare gn ∗ owns (c : Thread nD τ) arg8 fullShare (k0_pay2 u wa wb o wo) ∗ owns (c : Thread nD τ) arg9 fullShare (k0_pay3 (k0_pay2 u wa wb o wo) gn)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_; frame_open; simp (disch := decide) only [View.ld_unit_lit', View.readCov_unit_lit', View.readCov_cons_unit_lit', View.readAt_eq_ld, Memref.IsWhole.read_unread]
  iexists _; isplitr
  swap; · iexact H7
  ipureintro
  refine (View.read_writes_full _ _ _ _ _).trans ?_; frame_open; simp (disch := decide) only [View.ld_unit_lit', View.readCov_unit_lit', View.readCov_cons_unit_lit', View.readAt_eq_ld, Memref.IsWhole.read_unread]

end Cert.Ffn1

end
-- ==== Proof.Ffn1Frame.lean ====
module

public import proofs.«01_k».proof.Proof.Gen.Kernel3Ideal.Frame
public import proofs.«01_k».proof.Proof.Gen.Kernel3Ideal.Launch
public import proofs.«01_k».proof.Proof.Ffn1Body
public import Idealize.ShloMosaic.Lib.Pipeline.FrameBody
public import proofs.«01_k».proof.Proof.Gen.Kernel3Ideal.Points
public import Idealize.ShloMosaic.Lib.Pipeline.ValueKit
public import Idealize.ShloMosaic.Lib.Pipeline.TableIdle
public import Idealize.ShloMosaic.Lib.VecWindow
public import proofs.«01_k».proof.Proof.Gen.Kernel3Ideal.Skeleton

@[expose] public section

set_option maxRecDepth 16384

/-! # The first swiglu call, launched

What each grid point leaves in the two output blocks, as a recursion over the points; that the body keeps to it; and so
what a run of the whole call leaves, from any memory, at any reading of the floats. -/

noncomputable section

namespace Cert.Ffn1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are first and last -/

theorem at_first (t : Fin cfg0.N) : AtFirst (grid0.coords t) ↔ t.val % 11 = 0 :=
  (fun t => by
    have ht : t.val < 352 := Nat.lt_of_lt_of_eq t.isLt N_0
    have e1 : (grid0.coords t 1).val = t.val / 1 % 11 := Pipeline.Grid.coords_val t 1 (by decide) rfl
    simp only [AtFirst, e1]
    word_cmp
   : ∀ t : Fin grid0.N, AtFirst (grid0.coords t) ↔ t.val % 11 = 0) t

theorem at_last (t : Fin cfg0.N) : AtLast (grid0.coords t) ↔ t.val % 11 = 10 :=
  (fun t => by
    have ht : t.val < 352 := Nat.lt_of_lt_of_eq t.isLt N_0
    have e1 : (grid0.coords t 1).val = t.val / 1 % 11 := Pipeline.Grid.coords_val t 1 (by decide) rfl
    simp only [AtLast, e1]
    word_cmp
   : ∀ t : Fin grid0.N, AtLast (grid0.coords t) ↔ t.val % 11 = 10) t

/-- The narrow output is touched at the first and the last chunk only. -/
theorem idle_iff (t : Fin cfg0.N) :
    cfg0.idle 7 (cfg0.grid.coords t) = true ↔ ¬(t.val % 11 = 0) ∧ ¬(t.val % 11 = 10) := by
  rw [← at_first t, ← at_last t]
  show (!(k0_cond1 (grid0.coords t) == 1#1) && !(k0_cond2 (grid0.coords t) == 1#1)) = true ↔ _
  rw [Bool.and_eq_true, Bool.not_eq_true', Bool.not_eq_true', beq_eq_false_iff_ne, beq_eq_false_iff_ne]
  exact Iff.rfl

/-! ## What the points leave -/

/-- The two blocks after point `n`: the running sum, and the rows the chunks are multiplied by (after the last chunk, the
    next layer's rows). -/
def st (c : Dev nD) : (n : ℕ) → n < cfg0.N → Vec F S1024x2048 .f32 × Vec F S1024x2048 .bf16
  | 0, h => (k0_pay2 (k0_pay1 (iblk m c 0 ⟨0, h⟩) (iblk m c 1 ⟨0, h⟩)) (iblk m c 2 ⟨0, h⟩) (iblk m c 3 ⟨0, h⟩) (iblk m c 0 ⟨0, h⟩) (iblk m c 4 ⟨0, h⟩),
      k0_pay1 (iblk m c 0 ⟨0, h⟩) (iblk m c 1 ⟨0, h⟩))
  | n + 1, h =>
    if (n + 1) % 11 = 0 then
      (k0_pay2 (k0_pay1 (iblk m c 0 ⟨n + 1, h⟩) (iblk m c 1 ⟨n + 1, h⟩)) (iblk m c 2 ⟨n + 1, h⟩) (iblk m c 3 ⟨n + 1, h⟩) (iblk m c 0 ⟨n + 1, h⟩) (iblk m c 4 ⟨n + 1, h⟩),
        k0_pay1 (iblk m c 0 ⟨n + 1, h⟩) (iblk m c 1 ⟨n + 1, h⟩))
    else
      (k0_pay2 (st c n (Nat.lt_of_succ_lt h)).2 (iblk m c 2 ⟨n + 1, h⟩) (iblk m c 3 ⟨n + 1, h⟩) (st c n (Nat.lt_of_succ_lt h)).1 (iblk m c 4 ⟨n + 1, h⟩),
        if (n + 1) % 11 = 10 then
          k0_pay3 (k0_pay2 (st c n (Nat.lt_of_succ_lt h)).2 (iblk m c 2 ⟨n + 1, h⟩) (iblk m c 3 ⟨n + 1, h⟩) (st c n (Nat.lt_of_succ_lt h)).1 (iblk m c 4 ⟨n + 1, h⟩)) (iblk m c 5 ⟨n + 1, h⟩)
        else (st c n (Nat.lt_of_succ_lt h)).2)

theorem st_first (c : Dev nD) (t : Fin cfg0.N) (h : t.val % 11 = 0) :
    st m c t.val t.isLt = (k0_pay2 (k0_pay1 (iblk m c 0 t) (iblk m c 1 t)) (iblk m c 2 t) (iblk m c 3 t) (iblk m c 0 t) (iblk m c 4 t),
      k0_pay1 (iblk m c 0 t) (iblk m c 1 t)) := by
  obtain ⟨n, hn⟩ := t
  cases n with
  | zero => rfl
  | succ n => exact if_pos h

/-- The point before, as an index. -/
theorem pred_lt (t : Fin cfg0.N) : t.val - 1 < cfg0.N := Nat.lt_of_le_of_lt (Nat.sub_le _ _) t.isLt

theorem st_mid (c : Dev nD) (t : Fin cfg0.N) (h : ¬t.val % 11 = 0) (h' : ¬t.val % 11 = 10) :
    st m c t.val t.isLt = (k0_pay2 (st m c (t.val - 1) (pred_lt t)).2 (iblk m c 2 t) (iblk m c 3 t) (st m c (t.val - 1) (pred_lt t)).1 (iblk m c 4 t),
      (st m c (t.val - 1) (pred_lt t)).2) := by
  obtain ⟨n, hn⟩ := t
  cases n with
  | zero => exact absurd (Nat.zero_mod 11) h
  | succ n => exact (if_neg h).trans (Prod.ext rfl (if_neg h'))

theorem st_last (c : Dev nD) (t : Fin cfg0.N) (h' : t.val % 11 = 10) :
    st m c t.val t.isLt = (k0_pay2 (st m c (t.val - 1) (pred_lt t)).2 (iblk m c 2 t) (iblk m c 3 t) (st m c (t.val - 1) (pred_lt t)).1 (iblk m c 4 t),
      k0_pay3 (k0_pay2 (st m c (t.val - 1) (pred_lt t)).2 (iblk m c 2 t) (iblk m c 3 t) (st m c (t.val - 1) (pred_lt t)).1 (iblk m c 4 t)) (iblk m c 5 t)) := by
  obtain ⟨n, hn⟩ := t
  have h : ¬n % 11 = 0 := fun e => by dsimp only at h'; omega
  cases n with
  | zero => exact absurd (Nat.zero_mod 11) h
  | succ n => exact (if_neg h).trans (Prod.ext rfl (if_pos h'))

/-! ## The launch's data -/

/-- What the launch is told: the arrays as found, each input's block left in place, the two outputs as `st` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st m c t.val t.isLt).1
    | ⟨7, _⟩ => (st m c t.val t.isLt).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (st m c t.val t.isLt).1 := by dsimp only [dats]
theorem after_7 (c : Dev nD) (t : Fin cfg0.N) : (dats m 0 c).after 7 t = (st m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Off a tile's first chunk the float block still holds what the point before left. -/
theorem before_6 (c : Dev nD) (t : Fin cfg0.N) (h : ¬t.val % 11 = 0) (d) :
    (dats m 0 c).before 6 t d = (st m c (t.val - 1) (pred_lt t)).1 := by
  have hN : t.val < 352 := lt_of_lt_of_eq t.isLt (show cfg0.N = 352 from N_0)
  rw [Dat.before_out_kept _ 6 rfl t (by omega) (Bool.eq_false_iff.mpr fun e => by have := (flush0_6 _).mp e; dsimp only at this; omega)
    (fun _ => rfl) (fun _ _ => rfl)]
  dsimp only [dats]

/-- The narrow block is new exactly at a tile's first chunk. -/
theorem fresh_7 (n : ℕ) (h : n ≤ cfg0.N) : cfg0.fresh 7 n = decide (n % 11 = 0) := by
  refine Cfg.fresh_tab cfg0 7 (fun n => decide (n % 11 = 0)) rfl (fun t => ?_) n h
  have hN : t.val < 352 := lt_of_lt_of_eq t.isLt (show cfg0.N = 352 from N_0)
  have hf := flush0_7 t
  have hi := idle_iff t
  rw [Bool.eq_iff_iff, Bool.or_eq_true, Bool.and_eq_true, hf, hi, decide_eq_true_iff, decide_eq_true_iff]
  omega

/-- Off a tile's first chunk the narrow block still holds what the point before left. -/
theorem before_7 (c : Dev nD) (t : Fin cfg0.N) (h : ¬t.val % 11 = 0) (d) :
    (dats m 0 c).before 7 t d = (st m c (t.val - 1) (pred_lt t)).2 := by
  rw [Dat.before_out_traj (dats m 0 c) 7 rfl (fun _ _ => rfl) (fun s _ hi _ => ?_) t.val t rfl d,
    fresh_7 t.val (Nat.le_of_lt t.isLt), decide_eq_false h, if_neg Bool.false_ne_true, after_7]
  rw [after_7, after_7, st_mid m c s ((idle_iff s).mp hi).1 ((idle_iff s).mp hi).2]

/-! ## The body at a point -/

abbrev buf_x (t : Fin cfg0.N) : Memref sig .tc .vmem S1024x2048 .f32 := win0_0.stage (cfg0.slots t 0)
abbrev buf_g (t : Fin cfg0.N) : Memref sig .tc .vmem S1x2048 .f32 := win0_1.stage (cfg0.slots t 1)
abbrev buf_wa (t : Fin cfg0.N) : Memref sig .tc .vmem S2048x512 .bf16 := win0_2.stage (cfg0.slots t 2)
abbrev buf_wb (t : Fin cfg0.N) : Memref sig .tc .vmem S2048x512 .bf16 := win0_3.stage (cfg0.slots t 3)
abbrev buf_wo (t : Fin cfg0.N) : Memref sig .tc .vmem S512x2048 .bf16 := win0_4.stage (cfg0.slots t 4)
abbrev buf_gn (t : Fin cfg0.N) : Memref sig .tc .vmem S1x2048 .f32 := win0_5.stage (cfg0.slots t 5)
abbrev buf_o (t : Fin cfg0.N) : Memref sig .tc .vmem S1024x2048 .f32 := win0_6.stage (cfg0.slots t 6)
abbrev buf_u (t : Fin cfg0.N) : Memref sig .tc .vmem S1024x2048 .bf16 := win0_7.stage (cfg0.slots t 7)

/-- What the body is handed at a point. -/
def handed (c : Dev nD) (t : Fin cfg0.N) : sProp 𝕄 :=
  iprop((dats m 0 c).Φ t.castSucc ∗ (dats m 0 c).owesAt () t.castSucc ∗ (∃ d, owns (c : Thread nD τ) (buf_x t) fullShare ((dats m 0 c).before 0 t d)) ∗ (∃ d, owns (c : Thread nD τ) (buf_g t) fullShare ((dats m 0 c).before 1 t d)) ∗ (∃ d, owns (c : Thread nD τ) (buf_wa t) fullShare ((dats m 0 c).before 2 t d)) ∗ (∃ d, owns (c : Thread nD τ) (buf_wb t) fullShare ((dats m 0 c).before 3 t d)) ∗ (∃ d, owns (c : Thread nD τ) (buf_wo t) fullShare ((dats m 0 c).before 4 t d)) ∗ (∃ d, owns (c : Thread nD τ) (buf_gn t) fullShare ((dats m 0 c).before 5 t d)) ∗ (∃ d, owns (c : Thread nD τ) (buf_o t) fullShare ((dats m 0 c).before 6 t d)) ∗ (∃ d, owns (c : Thread nD τ) (buf_u t) fullShare ((dats m 0 c).before 7 t d)))

/-- What it must give back; the narrow block, where the body leaves it alone, at whatever it held. -/
def returned (c : Dev nD) (t : Fin cfg0.N) : sProp 𝕄 :=
  iprop((dats m 0 c).Φ t.succ ∗ (dats m 0 c).owesAt () t.succ ∗ owns (c : Thread nD τ) (buf_x t) fullShare ((dats m 0 c).after 0 t) ∗ owns (c : Thread nD τ) (buf_g t) fullShare ((dats m 0 c).after 1 t) ∗ owns (c : Thread nD τ) (buf_wa t) fullShare ((dats m 0 c).after 2 t) ∗ owns (c : Thread nD τ) (buf_wb t) fullShare ((dats m 0 c).after 3 t) ∗ owns (c : Thread nD τ) (buf_wo t) fullShare ((dats m 0 c).after 4 t) ∗ owns (c : Thread nD τ) (buf_gn t) fullShare ((dats m 0 c).after 5 t) ∗ owns (c : Thread nD τ) (buf_o t) fullShare ((dats m 0 c).after 6 t)
    ∗ (match cfg0.idle 7 (cfg0.grid.coords t) with
      | true =>
        match (cfg0.win 7).flush t with
        | false => iprop(∃ d, owns (c : Thread nD τ) (buf_u t) fullShare ((dats m 0 c).before 7 t d))
        | true => owns (c : Thread nD τ) (buf_u t) fullShare ((dats m 0 c).after 7 t)
      | false => owns (c : Thread nD τ) (buf_u t) fullShare ((dats m 0 c).after 7 t)))

set_option maxHeartbeats 3200000 in
theorem body_keeps (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4, before_5]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7]
  by_cases h0 : t.val % 11 = 0
  · have hi : idle0 7 (grid0.coords t) = false := Bool.eq_false_iff.mpr fun e => ((idle_iff t).mp e).1 h0
    rw [hi, st_first m c t h0]
    dsimp only
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ ((at_first t).mpr h0) (fun e => by have := (at_last t).mp e; omega) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before_6 m c t h0, before_7 m c t h0]
    by_cases h1 : t.val % 11 = 10
    · have hi : idle0 7 (grid0.coords t) = false := Bool.eq_false_iff.mpr fun e => ((idle_iff t).mp e).2 h1
      rw [hi, st_last m c t h1]
      dsimp only
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_last c (grid0.coords t) _ _ _ _ _ _ _ _ _ _ _ _ _ _ _ _ (fun e => h0 ((at_first t).mp e)) ((at_last t).mpr h1) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hi : idle0 7 (grid0.coords t) = true := (idle_iff t).mpr ⟨h0, h1⟩
      have hf : (win0 7).flush t = false := Bool.eq_false_iff.mpr fun e => h1 ((flush0_7 t).mp e)
      rw [hi, hf, st_mid m c t h0 h1]
      dsimp only
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_mid c (grid0.coords t) _ _ _ _ _ _ _ _ _ _ _ _ _ _ _ _ (fun e => h0 ((at_first t).mp e)) (fun e => h1 ((at_last t).mp e)) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_keeps m c t) rfl .rfl fun _ => .rfl

/-! ## The run -/

set_option backward.isDefEq.respectTransparency.types false in
/-- A run ends with every array at what the launch's data say, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Ffn1

end
-- ==== Proof.Ffn1Ref.lean ====
/- The reference of the first feed-forward step: its two composed terms, read at an index. -/
module

public import proofs.«01_k».proof.Proof.Gen.Reference3Ideal.Run
public import proofs.«01_k».proof.Proof.FfnRows

@[expose] public section

set_option maxRecDepth 16384

noncomputable section

namespace Cert.Ffn1

open Idealize.ShloMosaic Idealize.ShloMosaic.TcCoe
open Cert.Reference3Ideal Cert.Reference3Ideal.Gen Cert.FfnRows

/-- The normalised rows against the whole input weight: gate columns first, value columns after them. -/
def pre (X0 : FVec Ideal S32768x2048 .f32) (X1 : FVec Ideal S1x2048 .f32) (X2 : FVec Ideal S2048x11264 .bf16) :
    FVec Ideal S32768x11264 .f32 :=
  Host.dotGeneral dot_S32768x2048_S2048x11264_S32768x11264_1_0_0_1_n_n none (mulf (mulf X0 (broadcastInDim S32768x2048 ![0, 1] bcast_S32768x1_S32768x2048_0_1 (Host.rsqrt (addf (Host.divf (broadcastInDim S32768x1 ![0] bcast_S32768_S32768x1_0 (Host.reduceAdd (mulf X0 X0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 X1)) (extf .f32 X2 bitsLt_bf16_f32)

/-- The reference's first result over its arguments: the rows after the step. -/
def REF (X0 : FVec Ideal S32768x2048 .f32) (X1 : FVec Ideal S1x2048 .f32) (X2 : FVec Ideal S2048x11264 .bf16)
    (X3 : FVec Ideal S5632x2048 .bf16) : FVec Ideal S32768x2048 .f32 :=
  addf X0 (mulf (broadcastInDim S32768x2048 ![] bcast_S_S32768x2048 (constant S_ .f32 0x3F000000#32)) (Host.dotGeneral dot_S32768x5632_S5632x2048_S32768x2048_1_0_0_1_n_n none (mulf (mulf (extractStridedSlice S32768x5632 ![0, 0] (pre X0 X1 X2) slices_S32768x11264_S32768x5632_0_0) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (extractStridedSlice S32768x5632 ![0, 0] (pre X0 X1 X2) slices_S32768x11264_S32768x5632_0_0)))))) (extractStridedSlice S32768x5632 ![0, 5632] (pre X0 X1 X2) slices_S32768x11264_S32768x5632_0_5632)) (extf .f32 X3 bitsLt_bf16_f32)))

theorem pre_at (X0 : FVec Ideal S32768x2048 .f32) (X1 : FVec Ideal S1x2048 .f32) (X2 : FVec Ideal S2048x11264 .bf16)
    (r : Fin 32768) (l : Fin 11264) :
    pre X0 X1 X2 (ix2 r l)
      = ∑ k : Fin 2048, rms len eps (fun e => X0 (ix2 r e)) (fun e => X1 (ix2 0 e)) k * X2 (ix2 k l) := by
  pointwise! [pre, rms]

/-- The reference at an index: the step on that row. -/
theorem ref_at (X0 : FVec Ideal S32768x2048 .f32) (X1 : FVec Ideal S1x2048 .f32) (X2 : FVec Ideal S2048x11264 .bf16)
    (X3 : FVec Ideal S5632x2048 .bf16) (r : Fin 32768) (d : Fin 2048) :
    REF X0 X1 X2 X3 (ix2 r d)
      = step (fun e => X0 (ix2 r e)) (rms len eps (fun e => X0 (ix2 r e)) (fun e => X1 (ix2 0 e)))
          (fun k l => X2 (ix2 k l)) (fun l d => X3 (ix2 l d)) d := by
  unfold step
  pointwise [REF, pre_at, unit, Ideal.logistic]

/-- The reference's second result: the rows after the step, scaled by the next layer's gain. -/
def REFU (X0 : FVec Ideal S32768x2048 .f32) (X1 : FVec Ideal S1x2048 .f32) (X2 : FVec Ideal S2048x11264 .bf16)
    (X3 : FVec Ideal S5632x2048 .bf16) (X4 : FVec Ideal S1x2048 .f32) : FVec Ideal S32768x2048 .bf16 :=
  truncf .bf16 (mulf (mulf (REF X0 X1 X2 X3) (broadcastInDim S32768x2048 ![0, 1] bcast_S32768x1_S32768x2048_0_1 (Host.rsqrt (addf (Host.divf (broadcastInDim S32768x1 ![0] bcast_S32768_S32768x1_0 (Host.reduceAdd (mulf (REF X0 X1 X2 X3) (REF X0 X1 X2 X3)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 X4)) bitsLt_bf16_f32

/-- The reference's run leaves that term of its arguments. -/
theorem refu_eq (m : (ℓ : Loc nD τ sig) → Buf (Elt Ideal) ℓ) (c : Dev nD) :
    Cert.Reference3Ideal.Value.res_main_v35 m c
      = REFU (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  rfl

theorem refu_at (X0 : FVec Ideal S32768x2048 .f32) (X1 : FVec Ideal S1x2048 .f32) (X2 : FVec Ideal S2048x11264 .bf16)
    (X3 : FVec Ideal S5632x2048 .bf16) (X4 : FVec Ideal S1x2048 .f32) (r : Fin 32768) (d : Fin 2048) :
    REFU X0 X1 X2 X3 X4 (ix2 r d)
      = rms len eps (fun e => REF X0 X1 X2 X3 (ix2 r e)) (fun e => X4 (ix2 0 e)) d := by
  pointwise! [REFU, rms]

end Cert.Ffn1

end
-- ==== Proof.Ffn1.lean ====
/- The first feed-forward step: the two result arrays after the run are the reference's terms. -/
module

public import proofs.«01_k».proof.Proof.Ffn1Frame
public import proofs.«01_k».proof.Proof.Ffn1Ref
public import Idealize.ShloMosaic.Lib.Claim
public import Idealize.ShloMosaic.Lib.Pipeline.ReadBack

@[expose] public section

set_option maxRecDepth 16384

noncomputable section

namespace Cert.Ffn1

open Idealize.ShloMosaic Idealize.ShloMosaic.TcCoe Idealize.SL.Sem
open Idealize.ShloMosaic.Pipeline (Dat)
open Cert.Kernel3Ideal Cert.Kernel3Ideal.Gen Cert.FfnRows Cert.RowSums

variable (m : (ℓ : Loc nD τ sig) → Buf (Elt Ideal) ℓ)

/-- What the first point of a run stores: the scaled rows. -/
theorem norm_at (x : FVec Ideal S1024x2048 .f32) (g : FVec Ideal S1x2048 .f32) (r : Fin 1024) (d : Fin 2048) :
    k0_pay1 (F := Ideal) x g (ix2 r d) = rms len eps (fun e => x (ix2 r e)) (fun e => g (ix2 0 e)) d := by
  pointwise! [k0_pay1, rms]

/-- What the last point stores over them: the summed rows, scaled for the next layer. -/
theorem renorm_at (x : FVec Ideal S1024x2048 .f32) (g : FVec Ideal S1x2048 .f32) (r : Fin 1024) (d : Fin 2048) :
    k0_pay3 (F := Ideal) x g (ix2 r d) = rms len eps (fun e => x (ix2 r e)) (fun e => g (ix2 0 e)) d := by
  pointwise! [k0_pay3, rms]

/-- What every point adds to the float block: its tile of the hidden width. -/
theorem add_at (xn : FVec Ideal S1024x2048 .bf16) (wa wb : FVec Ideal S2048x512 .bf16) (acc : FVec Ideal S1024x2048 .f32)
    (wo : FVec Ideal S512x2048 .bf16) (r : Fin 1024) (d : Fin 2048) :
    k0_pay2 (F := Ideal) xn wa wb acc wo (ix2 r d)
      = acc (ix2 r d) + ∑ k : Fin 512, half * unit (fun e => xn (ix2 r e)) (fun e => wa (ix2 e k)) (fun e => wb (ix2 e k))
          * wo (ix2 k d) := by
  pointwise [k0_pay2, unit]
  simp only [mul_assoc]

/-- Every window's block index: the row tile is the point's run, the hidden tile its place in the run. -/
theorem idx : ∀ t : Fin cfg0.N, win0_0.index t = ![t.val / 11, 0] ∧ win0_1.index t = ![0, 0]
    ∧ win0_2.index t = ![0, t.val % 11] ∧ win0_3.index t = ![0, t.val % 11 + 11] ∧ win0_4.index t = ![t.val % 11, 0]
    ∧ win0_5.index t = ![0, 0] ∧ win0_6.index t = ![t.val / 11, 0] ∧ win0_7.index t = ![t.val / 11, 0] :=
  (by decide +kernel : ∀ t : Fin grid0.N, _)

/-- The arguments, as the kernel finds them. -/
abbrev X (c : Dev nD) : FVec Ideal S32768x2048 .f32 := m ((c : Thread nD τ).loc main_arg0)
abbrev G (c : Dev nD) : FVec Ideal S1x2048 .f32 := m ((c : Thread nD τ).loc main_arg1)
abbrev W (c : Dev nD) : FVec Ideal S2048x11264 .bf16 := m ((c : Thread nD τ).loc main_arg2)
abbrev V2 (c : Dev nD) : FVec Ideal S5632x2048 .bf16 := m ((c : Thread nD τ).loc main_arg3)
abbrev GN (c : Dev nD) : FVec Ideal S1x2048 .f32 := m ((c : Thread nD τ).loc main_arg4)

theorem N_val : cfg0.N = 352 := N_0

theorem blk_x (c : Dev nD) (t : Fin cfg0.N) (r : Fin 1024) (e : Fin 2048) :
    (show FVec Ideal S1024x2048 .f32 from iblk m c 0 t) (ix2 r e) = X m c (ix2 (tileRow (t.val / 11) r) e) := by
  have h := tileRow_val t.val (N_val ▸ t.isLt) r
  blk_ext [iblk, V, idx t, h]

theorem blk_g (c : Dev nD) (t : Fin cfg0.N) (e : Fin 2048) :
    (show FVec Ideal S1x2048 .f32 from iblk m c 1 t) (ix2 0 e) = G m c (ix2 0 e) := by
  blk_ext [iblk, V, idx t]

theorem blk_gn (c : Dev nD) (t : Fin cfg0.N) (e : Fin 2048) :
    (show FVec Ideal S1x2048 .f32 from iblk m c 5 t) (ix2 0 e) = GN m c (ix2 0 e) := by
  blk_ext [iblk, V, idx t]

theorem blk_a (c : Dev nD) (t : Fin cfg0.N) (e : Fin 2048) (k : Fin 512) :
    (show FVec Ideal S2048x512 .bf16 from iblk m c 2 t) (ix2 e k)
      = W m c (ix2 e (⟨t.val % 11 * 512 + k.val, by omega⟩ : Fin 11264)) := by
  blk_ext [iblk, V, idx t]

theorem blk_b (c : Dev nD) (t : Fin cfg0.N) (e : Fin 2048) (k : Fin 512) :
    (show FVec Ideal S2048x512 .bf16 from iblk m c 3 t) (ix2 e k)
      = W m c (ix2 e (⟨5632 + (t.val % 11 * 512 + k.val), by omega⟩ : Fin 11264)) := by
  blk_ext [iblk, V, idx t]

theorem blk_o (c : Dev nD) (t : Fin cfg0.N) (k : Fin 512) (d : Fin 2048) :
    (show FVec Ideal S512x2048 .bf16 from iblk m c 4 t) (ix2 k d)
      = V2 m c (ix2 (⟨t.val % 11 * 512 + k.val, by omega⟩ : Fin 5632) d) := by
  blk_ext [iblk, V, idx t]

/-- Row `i` of the array, scaled. -/
def nrm (c : Dev nD) (i : Fin 32768) : Fin 2048 → EReal :=
  rms len eps (fun e => X m c (ix2 i e)) (fun e => G m c (ix2 0 e))

/-- Tile `s` of the hidden width's part of row `i`. -/
def part (c : Dev nD) (i : Fin 32768) : ℕ → Fin 2048 → EReal :=
  tilePart (nrm m c i) (fun e l => W m c (ix2 e l)) (fun l d => V2 m c (ix2 l d))

theorem norm_blk (c : Dev nD) (t : Fin cfg0.N) (r : Fin 1024) (d : Fin 2048) :
    k0_pay1 (F := Ideal) (iblk m c 0 t) (iblk m c 1 t) (ix2 r d) = nrm m c (tileRow (t.val / 11) r) d := by
  rw [norm_at]
  unfold nrm
  congr 1
  · funext e; exact blk_x m c t r e
  · funext e; exact blk_g m c t e

/-- A point's payload over its blocks is what it finds in the float block plus its part. -/
theorem add_blk (c : Dev nD) (t : Fin cfg0.N) (xn : FVec Ideal S1024x2048 .bf16) (acc : FVec Ideal S1024x2048 .f32)
    (hxn : ∀ r d, xn (ix2 r d) = nrm m c (tileRow (t.val / 11) r) d) (r : Fin 1024) (d : Fin 2048) :
    k0_pay2 (F := Ideal) xn (iblk m c 2 t) (iblk m c 3 t) acc (iblk m c 4 t) (ix2 r d)
      = acc (ix2 r d) + part m c (tileRow (t.val / 11) r) (t.val % 11) d := by
  rw [add_at]
  unfold part tilePart
  congr 1
  refine Finset.sum_congr rfl fun k _ => ?_
  have e11 : t.val % 11 % 11 = t.val % 11 := Nat.mod_mod _ _
  simp only [e11]
  refine Ideal.mul_congr (Ideal.mul_congr rfl ?_) (blk_o m c t k d)
  congr 1
  · funext e; exact hxn r e
  · funext e; exact blk_a m c t e k
  · funext e; exact blk_b m c t e k

/-- The narrow block holds the tile's scaled rows after every point but the last of the tile. -/
theorem carried (c : Dev nD) : ∀ (n : ℕ) (h : n < cfg0.N), ¬n % 11 = 10 → ∀ (r : Fin 1024) (d : Fin 2048),
    (show FVec Ideal S1024x2048 .bf16 from (st m c n h).2) (ix2 r d) = nrm m c (tileRow (n / 11) r) d := by
  intro n
  induction n with
  | zero => intro h _ r d; rw [st_first m c ⟨0, h⟩ rfl]; exact norm_blk m c ⟨0, h⟩ r d
  | succ n ih =>
    intro h hl r d
    by_cases hn : (n + 1) % 11 = 0
    · rw [st_first m c ⟨n + 1, h⟩ hn]; exact norm_blk m c ⟨n + 1, h⟩ r d
    · have e : (n + 1) / 11 = n / 11 := by omega
      rw [st_mid m c ⟨n + 1, h⟩ hn hl, e]
      exact ih (Nat.lt_of_succ_lt h) (by omega) r d

/-- The float block after every point: the row tile plus the parts of the run so far. -/
theorem running (c : Dev nD) (r : Fin 1024) (d : Fin 2048) (n : ℕ) (h : n < cfg0.N) :
    (show FVec Ideal S1024x2048 .f32 from (st m c n h).1) (ix2 r d)
      = X m c (ix2 (tileRow (n / 11) r) d) + ∑ s ∈ Finset.range (n % 11 + 1), part m c (tileRow (n / 11) r) s d := by
  refine walk (fun n h => (show FVec Ideal S1024x2048 .f32 from (st m c n h).1) (ix2 r d))
    (fun q => X m c (ix2 (tileRow q r) d)) (fun q s => part m c (tileRow q r) s d) (fun n h hn => ?_) (fun n h hn => ?_) n h
  · have hst := st_first m c ⟨n, h⟩ hn
    dsimp only at hst ⊢
    rw [hst]
    refine (add_blk m c ⟨n, h⟩ _ _ (norm_blk m c ⟨n, h⟩) r d).trans ?_
    dsimp only
    rw [hn]
    exact Ideal.add_congr (blk_x m c ⟨n, h⟩ r d) rfl
  · have hp : n - 1 < cfg0.N := Nat.lt_of_le_of_lt (Nat.sub_le _ _) h
    have hst : (st m c n h).1 = k0_pay2 (st m c (n - 1) hp).2 (iblk m c 2 ⟨n, h⟩) (iblk m c 3 ⟨n, h⟩) (st m c (n - 1) hp).1 (iblk m c 4 ⟨n, h⟩) := by
      by_cases hl : n % 11 = 10
      · exact congrArg Prod.fst (st_last m c ⟨n, h⟩ hl)
      · exact congrArg Prod.fst (st_mid m c ⟨n, h⟩ hn hl)
    dsimp only
    rw [hst]
    refine add_blk m c ⟨n, h⟩ _ _ (fun r d => ?_) r d
    have e : n / 11 = (n - 1) / 11 := by omega
    dsimp only
    rw [e]
    exact carried m c (n - 1) hp (by omega) r d

/-- At a tile's last point the float block is the reference's rows. -/
theorem summed (c : Dev nD) (t : Fin cfg0.N) (ht : t.val % 11 = 10) (r : Fin 1024) (d : Fin 2048) :
    (show FVec Ideal S1024x2048 .f32 from (st m c t.val t.isLt).1) (ix2 r d)
      = REF (X m c) (G m c) (W m c) (V2 m c) (ix2 (tileRow (t.val / 11) r) d) := by
  rw [ref_at, step_tiles]
  refine (running m c r d t.val t.isLt).trans ?_
  rw [ht]
  rfl

/-- The first result after the run is the reference's rows after the step. -/
theorem final_rows (c : Dev nD) : (dats m 0 c).arrAt 6 (cfgs 0).N = REF (X m c) (G m c) (W m c) (V2 m c) := by
  refine (dats m 0 c).arrAt_eq_of_covers 6 _ (by decide +kernel) fun t hf y => ?_
  blk_simp
  rw [after_6]
  have ht : t.val % 11 = 10 := (flush0_6 t).mp hf
  idx_vars y
  have h := tileRow_val t.val (N_val ▸ t.isLt) y0
  have hi : ((View.whole main_v0_0).slice (win0_6.rect t)).emb (ix2 y0 y1) = ix2 (tileRow (t.val / 11) y0) y1 := by
    blk_ext [idx t, h]
  rw [hi]
  exact summed m c t ht y0 y1

/-- The second result after the run is those rows scaled for the next layer. -/
theorem final_scaled (c : Dev nD) : (dats m 0 c).arrAt 7 (cfgs 0).N = REFU (X m c) (G m c) (W m c) (V2 m c) (GN m c) := by
  refine (dats m 0 c).arrAt_eq_of_covers 7 _ (by decide +kernel) fun t hf y => ?_
  blk_simp
  rw [after_7]
  have ht : t.val % 11 = 10 := (flush0_7 t).mp hf
  idx_vars y
  have h := tileRow_val t.val (N_val ▸ t.isLt) y0
  have hi : ((View.whole main_v0_1).slice (win0_7.rect t)).emb (ix2 y0 y1) = ix2 (tileRow (t.val / 11) y0) y1 := by
    blk_ext [idx t, h]
  have hs : (st m c t.val t.isLt).2 = k0_pay3 (st m c t.val t.isLt).1 (iblk m c 5 t) := by
    rw [st_last m c t ht]
  rw [hi, refu_at, hs]
  refine (renorm_at _ _ y0 y1).trans ?_
  congr 1
  · funext e; exact summed m c t ht y0 e
  · funext e; exact blk_gn m c t e

end Cert.Ffn1

end
-- ==== Proof.Ffn1Same.lean ====
/- The compiled first swiglu call and its exact-arithmetic counterpart are the same program, up to the reading of the
   floats: so what is proved of one at every reading is proved of the other. -/
module

public import proofs.«01_k».proof.Proof.Gen.Kernel3
public import proofs.«01_k».proof.Proof.Ffn1Frame

@[expose] public section

namespace Cert.Ffn1

open Idealize.ShloMosaic Idealize.SL.Sem

variable {F : FTy → Type} [FloatOps F]

set_option maxRecDepth 100000 in
/-- The two body tables run the same kernel. -/
theorem table_eq : @Cert.Kernel3.defs₀ F _ _ = @Cert.Kernel3Ideal.defs₀ F _ _ := by
  unfold Cert.Kernel3.defs₀ Cert.Kernel3Ideal.defs₀
  refine congrArg Defs.onTc (funext fun l => funext fun x => ?_)
  match l, x with
  | 0, (t, s) => rfl
  | ⟨_ + 1, h⟩, _ => exact absurd h (Nat.not_lt.2 (Nat.le_add_left _ _))

theorem defs_eq : @Cert.Kernel3.defs F _ _ = @Cert.Kernel3Ideal.defs F _ _ := by
  unfold Cert.Kernel3.defs Cert.Kernel3Ideal.defs
  exact congrArg (Pipeline.defs _) table_eq

/-- The compiled call's arguments end as they were, and every counter at zero. -/
theorem frame_compiled (m : (ℓ : Loc Cert.Kernel3.nD Cert.Kernel3.τ Cert.Kernel3.sig) → Buf (Elt F) ℓ) (ρ : Dev Cert.Kernel3.nD → PrngReg) :
    θ_run Cert.Kernel3.defs (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0) := by
  rw [defs_eq]
  exact frame (F := F) m ρ

end Cert.Ffn1

end
-- ==== Proof.Ple.lean ====
/- The per-token embedding step: the result array after the run is the reference's term of the arguments. -/
module

public import proofs.«01_k».proof.Proof.Gen.Kernel4Ideal.Frame
public import proofs.«01_k».proof.Proof.Gen.Reference4Ideal.Run
public import Idealize.ShloMosaic.Lib.Pipeline.ValueKit

@[expose] public section

set_option maxRecDepth 16384

noncomputable section

namespace Cert.Ple

open Idealize.ShloMosaic Idealize.ShloMosaic.TcCoe Idealize.SL.Sem
open Idealize.ShloMosaic.Pipeline (Dat)
open Cert.Kernel4Ideal Cert.Kernel4Ideal.Gen

/-- The reference's result over its arguments. -/
def REF (X0 : FVec Ideal Cert.Reference4Ideal.S32768x2048 .f32) (X1 : FVec Ideal Cert.Reference4Ideal.S32768x256 .f32)
    (X2 : FVec Ideal Cert.Reference4Ideal.S1x2048 .f32) (X3 : FVec Ideal Cert.Reference4Ideal.S2048x2048 .bf16)
    (X4 : FVec Ideal Cert.Reference4Ideal.S256x2048 .bf16) : FVec Ideal Cert.Reference4Ideal.S32768x2048 .f32 :=
  addf X0 (mulf (Host.divf (broadcastInDim Cert.Reference4Ideal.S32768x2048 ![] Cert.Reference4Ideal.Gen.bcast_S_S32768x2048 (constant Cert.Reference4Ideal.S_ .f32 0x3F800000#32)) (addf (broadcastInDim Cert.Reference4Ideal.S32768x2048 ![] Cert.Reference4Ideal.Gen.bcast_S_S32768x2048 (constant Cert.Reference4Ideal.S_ .f32 0x3F800000#32)) (Host.exp (Host.negf (Host.dotGeneral Cert.Reference4Ideal.dot_S32768x2048_S2048x2048_S32768x2048_1_0_0_1_n_n none (mulf (mulf X0 (broadcastInDim Cert.Reference4Ideal.S32768x2048 ![0, 1] Cert.Reference4Ideal.Gen.bcast_S32768x1_S32768x2048_0_1 (Host.rsqrt (addf (Host.divf (broadcastInDim Cert.Reference4Ideal.S32768x1 ![0] Cert.Reference4Ideal.Gen.bcast_S32768_S32768x1_0 (Host.reduceAdd (mulf X0 X0) (constant Cert.Reference4Ideal.S_ .f32 0x00000000#32) Cert.Reference4Ideal.Gen.reducesTo_S32768x2048_S32768_d1 Cert.Reference4Ideal.Gen.h_S_)) (broadcastInDim Cert.Reference4Ideal.S32768x1 ![] Cert.Reference4Ideal.Gen.bcast_S_S32768x1 (constant Cert.Reference4Ideal.S_ .f32 0x45000000#32))) (broadcastInDim Cert.Reference4Ideal.S32768x1 ![] Cert.Reference4Ideal.Gen.bcast_S_S32768x1 (constant Cert.Reference4Ideal.S_ .f32 0x358637BD#32)))))) (broadcastInDim Cert.Reference4Ideal.S32768x2048 ![0, 1] Cert.Reference4Ideal.Gen.bcast_S1x2048_S32768x2048_0_1 X2)) (extf .f32 X3 Cert.Reference4Ideal.Gen.bitsLt_bf16_f32)))))) (Host.dotGeneral Cert.Reference4Ideal.dot_S32768x256_S256x2048_S32768x2048_1_0_0_1_n_n none X1 (extf .f32 X4 Cert.Reference4Ideal.Gen.bitsLt_bf16_f32)))

variable (m : (ℓ : Loc nD τ sig) → Buf (Elt Ideal) ℓ)

/-- Every window's block index: the row tile is the point, the other operands are whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- What the body stores at a block's index is the reference at the array's index there. -/
theorem point (c : Dev nD) (t : Fin cfg0.N) (y) :
    k0_pay1 (F := Ideal) (iblk m c 0 t) (iblk m c 2 t) (iblk m c 3 t) (iblk m c 1 t) (iblk m c 4 t) y
      = REF (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  pointwise [k0_pay1, REF, Ideal.logistic]
  blk_point [iblk, V, idx t]

/-- The result array after the run is the reference's term of the arguments. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  frame_out
  exact point m c t y

end Cert.Ple

end
-- ==== Proof.Pieces.lean ====
/- Contents built piece by piece: when every stored piece agrees with one function of the index, so does every load that
   lands inside a stored piece. -/
module

public import Idealize.ShloMosaic.Lib.Pipeline.ValueKit

@[expose] public section

noncomputable section

namespace Cert.Pieces

open Idealize.ShloMosaic

variable {Val : EltTy → Type} {S : Shape} {e : EltTy}

/-- Every stored piece holds, at its own index, what `G` says of the place it lands at. -/
def Good (G : S.Idx → Val e) (L : List (View.Piece Val S e)) : Prop :=
  ∀ p ∈ L, ∀ x : p.1.shape.Idx, p.2 x = G (p.1.emb x)

theorem Good.nil (G : S.Idx → Val e) : Good G ([] : List (View.Piece Val S e)) := fun _ h => absurd h List.not_mem_nil

/-- One more piece. -/
theorem Good.cons {G : S.Idx → Val e} {L : List (View.Piece Val S e)} (H : Good G L) {r : Rect S} {w : r.shape.Idx → Val e}
    (hw : ∀ x, w x = G (r.emb x)) : Good G (⟨r, w⟩ :: L) := by
  intro p hp
  rcases List.mem_cons.mp hp with rfl | hp
  · exact hw
  · exact H p hp

/-- Some piece of the list holds the whole box. -/
def covered (L : List (View.Piece Val S e)) (B : LoadRect S) : Bool := L.any fun p => LoadRect.within p.1 B

/-- A load inside one of the pieces reads `G`. -/
theorem Good.read [∀ e, Nonempty (Val e)] {sig : RefSig} {κ : Kind} {sp : Space} {G : S.Idx → Val e}
    {L : List (View.Piece Val S e)} (H : Good G L) (v : View sig κ sp S e) {B : LoadRect S} (hc : covered L B = true)
    (j : B.shape.Idx) : v.readCov L B j = G (B.idx j) := by
  rw [View.readCov_eq_canon']
  refine View.canon_apply_of_pieces G L H _ ?_
  obtain ⟨p, hp, hb⟩ := List.any_eq_true.mp hc
  exact ⟨p, hp, LoadRect.idx_mem_of_within hb j⟩

/-- The contents at an index some piece holds. -/
theorem Good.canon [∀ e, Nonempty (Val e)] {G : S.Idx → Val e} {L : List (View.Piece Val S e)} (H : Good G L) (y : S.Idx)
    (hy : ∃ p ∈ L, y ∈ p.1.set) : View.canon L y = G y := View.canon_apply_of_pieces G L H y hy

/-- What holds of a shared history may be used wherever the history is read. -/
theorem share {G : S.Idx → Val e} {L : List (View.Piece Val S e)} {P : Prop} (k : Good G L → P) (h : Good G L) : P := k h

end Cert.Pieces

end
-- ==== Proof.ProjRows.lean ====
/- The projected heads on rows, as plain functions of extended reals. -/
module

public import proofs.«01_k».proof.Proof.FfnRows

@[expose] public section

noncomputable section

namespace Cert.ProjRows

open Idealize.ShloMosaic Cert.FfnRows

/-- The head's length, 128, and the scale of the query heads, as the two programs write them. -/
abbrev headLen : EReal := Ideal.ofBits FTy.f32 0x43000000#32
abbrev qScale : EReal := Ideal.ofBits FTy.f32 0x3E0293EE#32

/-- Head `h` of row `i` of a tile before it is scaled: the row against the head's columns of the weight tile. -/
def raw (U : Fin 256 → Fin 2048 → EReal) (W : Fin 2048 → Fin 1024 → EReal) (i h l : ℕ) : EReal :=
  ∑ k, U ⟨i % 256, by omega⟩ k * W k ⟨h % 8 * 128 + l % 128, by omega⟩

/-- The head divided by its root mean square, times the gain. -/
def normed (U : Fin 256 → Fin 2048 → EReal) (W : Fin 2048 → Fin 1024 → EReal) (g : Fin 128 → EReal) (i h l : ℕ) : EReal :=
  rms headLen eps (fun e : Fin 128 => raw U W i h e.val) g ⟨l % 128, by omega⟩

end Cert.ProjRows

end
-- ==== Proof.ProjA.lean ====
module

public import proofs.«01_k».proof.Proof.Gen.Kernel5Ideal.Frame
public import Idealize.ShloMosaic.Lib.Pipeline.ValueKit
public import proofs.«01_k».proof.Proof.Pieces
public import proofs.«01_k».proof.Proof.ProjRows

@[expose] public section

set_option maxRecDepth 16384

noncomputable section

namespace Cert.ProjA

open Idealize.ShloMosaic Idealize.ShloMosaic.TcCoe Idealize.SL.Sem
open Idealize.ShloMosaic.Pipeline (Dat)
open Cert.Kernel5Ideal Cert.Kernel5Ideal.Gen Cert.Pieces Cert.ProjRows Cert.FfnRows

/-- One head of a tile of rows: a slice of the product, divided by its root mean square, times the gain and the scale. -/
abbrev headVec (x : FVec Ideal S256x128 .f32) (q : Vec Ideal S1x128 .f32) : FVec Ideal S256x128 .f32 :=
  mulf (mulf (mulf x (broadcastTo S256x128 (rsqrt (addf (divf (shapeCast S256x1 (multiReduction .add [1] S256 (mulf x x) 0x00000000#32 reduces_S256x128_S256 (.inl rfl) rfl) shapeCasts_S256_S256x1) (broadcast S256x1 (FloatOps.ofBits .f32 0x43000000#32))) (broadcast S256x1 (FloatOps.ofBits .f32 0x358637BD#32)))) broadcasts_S256x1_S256x128))
    (broadcastTo S256x128 q broadcasts_S1x128_S256x128)) (broadcast S256x128 (FloatOps.ofBits .f32 0x3E0293EE#32))

/-- The product of a tile of rows with half a weight tile. -/
abbrev half (x : Vec Ideal S256x2048 .bf16) (w : Vec Ideal S2048x512 .bf16) : FVec Ideal S256x512 .f32 :=
  matmul (φ₁ := .bf16) (φ₂ := .bf16) dot_S256x2048_S2048x512_S256x512_1_0_0_1_n_n none x w (constant S256x512 .f32 0x00000000#32)

theorem headVec_at (x : FVec Ideal S256x128 .f32) (q : Vec Ideal S1x128 .f32) (i : Fin 256) (l : Fin 128) :
    headVec x q (ix2 i l)
      = rms headLen eps (fun e : Fin 128 => x (ix2 i e)) (fun e => q (ix2 0 e)) l * qScale := by
  pointwise [rms]

/-- The raw tile and the scaled tile of a block of rows and a weight tile. -/
abbrev rawB (X : Vec Ideal S256x2048 .bf16) (W : Vec Ideal S2048x1024 .bf16) : ℕ → ℕ → ℕ → EReal :=
  raw (fun i k => X (ix2 i k)) (fun k l => W (ix2 k l))
abbrev qB (X : Vec Ideal S256x2048 .bf16) (W : Vec Ideal S2048x1024 .bf16) (q : Vec Ideal S1x128 .f32) (i h l : ℕ) : EReal :=
  normed (fun i k => X (ix2 i k)) (fun k l => W (ix2 k l)) (fun e => q (ix2 0 e)) i h l * qScale

/-- A slice of the product at an entry. -/
theorem slice_at (X : Vec Ideal S256x2048 .bf16) (W : Vec Ideal S2048x1024 .bf16) (o c inb1 sl) (h : ℕ)
    (hh : h < 8) (ho : c + o = h * 128) (i : Fin 256) (l : Fin 128) :
    extractStridedSlice S256x128 ![0, o]
      (half X
        (View.ld W (Rect.unit (s := S2048x1024) ![0, c] S2048x512.size inb1))) sl (ix2 i l)
      = rawB X W i.val h l.val := by
  pointwise [raw]
  refine Finset.sum_congr rfl fun k _ => ?_
  have hi := i.isLt
  have hl := l.isLt
  rw [show (⟨i.val % 256, by omega⟩ : Fin 256) = i from Fin.ext (Nat.mod_eq_of_lt hi),
    show (⟨h % 8 * 128 + l.val % 128, by omega⟩ : Fin 1024) = ⟨c + (o + l.val), by omega⟩ from Fin.ext (by
      show h % 8 * 128 + l.val % 128 = c + (o + l.val); omega)]

/-- A scaled head at an entry. -/
theorem head_at (X : Vec Ideal S256x2048 .bf16) (W : Vec Ideal S2048x1024 .bf16) (Q : Vec Ideal S1x128 .f32)
    (o c inb1 sl) (h : ℕ)
    (hh : h < 8) (ho : c + o = h * 128) (i : Fin 256) (l : Fin 128) :
    headVec (extractStridedSlice S256x128 ![0, o]
      (half X
        (View.ld W (Rect.unit (s := S2048x1024) ![0, c] S2048x512.size inb1))) sl)
      Q (ix2 i l)
      = qB X W Q i.val h l.val := by
  rw [headVec_at]
  simp only [slice_at X W o c inb1 sl h hh ho]
  have hl := l.isLt
  show _ = rms headLen eps _ _ (⟨l.val % 128, by omega⟩ : Fin 128) * qScale
  rw [show (⟨l.val % 128, by omega⟩ : Fin 128) = l from Fin.ext (Nat.mod_eq_of_lt hl)]

/-! ## The staging slab -/

/-- What the slab holds: the heads of one group, the heads of the other, and the latter sorted by residue modulo four. -/
def slabG (A B : ℕ → ℕ → ℕ → EReal) (y : S3x8x256x128.Idx) : Elt Ideal .f32 :=
  if (y 0).val = 0 then A (y 2).val (y 1).val (y 3).val
  else if (y 0).val = 1 then B (y 2).val (y 1).val (y 3).val
  else B ((y 2).val % 64 * 4 + (y 2).val / 64) (y 1).val (y 3).val

theorem slabG_one {A B : ℕ → ℕ → ℕ → EReal} {y : S3x8x256x128.Idx} {i h l : ℕ} (y0 : (y 0).val = 0) (y1 : (y 1).val = h)
    (y2 : (y 2).val = i) (y3 : (y 3).val = l) : slabG A B y = A i h l := by
  unfold slabG; rw [if_pos y0, y1, y2, y3]

theorem slabG_two {A B : ℕ → ℕ → ℕ → EReal} {y : S3x8x256x128.Idx} {i h l : ℕ} (y0 : (y 0).val = 1) (y1 : (y 1).val = h)
    (y2 : (y 2).val = i) (y3 : (y 3).val = l) : slabG A B y = B i h l := by
  unfold slabG; rw [if_neg (by omega), if_pos y0, y1, y2, y3]

theorem slabG_three {A B : ℕ → ℕ → ℕ → EReal} {y : S3x8x256x128.Idx} {i j h l : ℕ} (y0 : (y 0).val = 2) (y1 : (y 1).val = h)
    (y2 : (y 2).val = j) (y3 : (y 3).val = l) (hi : j % 64 * 4 + j / 64 = i) : slabG A B y = B i h l := by
  unfold slabG; rw [if_neg (by omega), if_neg (by omega), y1, y2, y3, hi]

variable {A B : ℕ → ℕ → ℕ → EReal} {L : List (View.Piece (Elt Ideal) S3x8x256x128 .f32)}

theorem cast_head (w : FVec Ideal S256x128 .f32) (c) (x : S1x1x256x128.Idx) :
    shapeCast S1x1x256x128 w c x = w (ix2 (x 2) (x 3)) := by
  idx_vars x
  pointwise
  blk_ext []

theorem cast_move (w : Vec Ideal S1x1x64x128 .f32) (c1 c2) (x : S1x1x64x128.Idx) :
    shapeCast S1x1x64x128 (shapeCast S64x128 w c1) c2 x = w (ix4 0 0 (x 2) (x 3)) := by
  idx_vars x
  pointwise
  blk_ext []

theorem cast_leave4 (w : Vec Ideal S1x1x64x128 .f32) (c1 c2 c3) (x : S1x1x64x128.Idx) :
    shapeCast S1x1x64x128 (truncf (F := Ideal) (φ := .f32) .bf16 (shapeCast S64x128 w c1) c2) c3 x = w (ix4 0 0 (x 2) (x 3)) := by
  idx_vars x
  pointwise
  blk_ext []

theorem cast_leave16 (w : Vec Ideal S1x1x16x128 .f32) (c1 c2 c3) (x : S1x1x16x128.Idx) :
    shapeCast S1x1x16x128 (truncf (F := Ideal) (φ := .f32) .bf16 (shapeCast S16x128 w c1) c2) c3 x = w (ix4 0 0 (x 2) (x 3)) := by
  idx_vars x
  pointwise
  blk_ext []

/-- A head of the second group is stored. -/
theorem store_head (H : Good (slabG A B) L) (h : ℕ) (h1 h2 h3 c) (w : FVec Ideal S256x128 .f32)
    (hw : ∀ (i : Fin 256) (l : Fin 128), w (ix2 i l) = B i.val h l.val) :
    Good (slabG A B) (⟨(Rect.unit (s := S3x8x256x128) ![1, 0, 0, 0] S2x8x256x128.size h1).within
      (Rect.unit ![0, h, 0, 0] S1x1x256x128.size h2) h3, shapeCast S1x1x256x128 w c⟩ :: L) := by
  refine H.cons fun x => ?_
  have x0 : (x 0).val < 1 := (x 0).isLt
  have x1 : (x 1).val < 1 := (x 1).isLt
  refine (cast_head w c x).trans ((hw (x 2) (x 3)).trans ?_)
  refine (slabG_two (show 1 + 0 + 1 * (x 0).val = 1 by omega) (show 0 + h + 1 * (x 1).val = h by omega)
    (show 0 + 0 + 1 * (x 2).val = (x 2).val by omega) (show 0 + 0 + 1 * (x 3).val = (x 3).val by omega)).symm

/-- A head of the first group is stored. -/
theorem store_head' (H : Good (slabG A B) L) (h : ℕ) (h1 h2 h3 c) (w : FVec Ideal S256x128 .f32)
    (hw : ∀ (i : Fin 256) (l : Fin 128), w (ix2 i l) = A i.val h l.val) :
    Good (slabG A B) (⟨(Rect.unit (s := S3x8x256x128) ![0, 0, 0, 0] S1x8x256x128.size h1).within
      (Rect.unit ![0, h, 0, 0] S1x1x256x128.size h2) h3, shapeCast S1x1x256x128 w c⟩ :: L) := by
  refine H.cons fun x => ?_
  have x0 : (x 0).val < 1 := (x 0).isLt
  have x1 : (x 1).val < 1 := (x 1).isLt
  refine (cast_head w c x).trans ((hw (x 2) (x 3)).trans ?_)
  refine (slabG_one (show 0 + 0 + 1 * (x 0).val = 0 by omega) (show 0 + h + 1 * (x 1).val = h by omega)
    (show 0 + 0 + 1 * (x 2).val = (x 2).val by omega) (show 0 + 0 + 1 * (x 3).val = (x 3).val by omega)).symm

/-- Every fourth row of a head is moved to the sorted slab. -/
theorem move (H : Good (slabG A B) L) (v : View sig .tc .vmem S3x8x256x128 .f32) (h r a : ℕ) (hr : r < 4) (ha : a = 64 * r)
    (h1 h2 h3 h4 h5 h6 c1 c2)
    (hc : covered L ((Rect.unit (s := S3x8x256x128) ![1, 0, 0, 0] S2x8x256x128.size h4).withinL
      ⟨![0, h, r, 0], S1x1x64x128.size, ![1, 1, 4, 1], h5⟩ h6) = true) :
    Good (slabG A B) (⟨(Rect.unit (s := S3x8x256x128) ![1, 0, 0, 0] S2x8x256x128.size h1).within
      (Rect.unit ![1, h, a, 0] S1x1x64x128.size h2) h3,
      shapeCast S1x1x64x128 (shapeCast S64x128 (v.readCov L
        ((Rect.unit (s := S3x8x256x128) ![1, 0, 0, 0] S2x8x256x128.size h4).withinL
          ⟨![0, h, r, 0], S1x1x64x128.size, ![1, 1, 4, 1], h5⟩ h6)) c1) c2⟩ :: L) := by
  refine H.cons fun x => ?_
  have x0 : (x 0).val < 1 := (x 0).isLt
  have x1 : (x 1).val < 1 := (x 1).isLt
  have x2 : (x 2).val < 64 := (x 2).isLt
  refine (cast_move _ c1 c2 x).trans ((H.read v hc _).trans ?_)
  refine (slabG_two (i := r + 4 * (x 2).val) (h := h) (l := (x 3).val) rfl (show 0 + h + 1 * 0 = h by omega)
    (show 0 + r + 4 * (x 2).val = r + 4 * (x 2).val by omega) (show 0 + 0 + 1 * (x 3).val = (x 3).val by omega)).trans ?_
  refine (slabG_three (show 1 + 1 + 1 * (x 0).val = 2 by omega) (show 0 + h + 1 * (x 1).val = h by omega)
    (show 0 + a + 1 * (x 2).val = 64 * r + (x 2).val by omega) (show 0 + 0 + 1 * (x 3).val = (x 3).val by omega)
    (by omega)).symm

/-- What the block of the unstrided group holds. -/
def blk1 (A : ℕ → ℕ → ℕ → EReal) (y : S1x1x256x1024.Idx) : Elt Ideal .bf16 :=
  A (y 2).val ((y 3).val / 128) ((y 3).val % 128)

theorem cast_leave1 (w : FVec Ideal S256x128 .f32) (c1 c2) (x : S1x1x256x128.Idx) :
    shapeCast S1x1x256x128 (truncf (F := Ideal) (φ := .f32) .bf16 w c1) c2 x = w (ix2 (x 2) (x 3)) := by
  idx_vars x
  pointwise
  blk_ext []

/-- A head of the unstrided group leaves for its block. -/
theorem leave1 {Lo : List (View.Piece (Elt Ideal) S1x1x256x1024 .bf16)} (Ho : Good (blk1 A) Lo)
    (a : ℕ) (ha : a % 128 = 0) (h1 c1 c2) (w : FVec Ideal S256x128 .f32)
    (hw : ∀ (i : Fin 256) (l : Fin 128), w (ix2 i l) = A i.val (a / 128) l.val) :
    Good (blk1 A) (⟨Rect.unit (s := S1x1x256x1024) ![0, 0, 0, a] S1x1x256x128.size h1,
      shapeCast S1x1x256x128 (truncf (F := Ideal) (φ := .f32) .bf16 w c1) c2⟩ :: Lo) := by
  refine Ho.cons fun x => ?_
  have x3 : (x 3).val < 128 := (x 3).isLt
  refine (cast_leave1 w c1 c2 x).trans ((hw (x 2) (x 3)).trans ?_)
  show _ = A (0 + 1 * (x 2).val) ((a + 1 * (x 3).val) / 128) ((a + 1 * (x 3).val) % 128)
  congr 1 <;> first | omega | skip

/-- What a block of plain columns holds. -/
def blkZ (R : ℕ → ℕ → ℕ → EReal) (y : S256x1024.Idx) : Elt Ideal .f32 :=
  R (y 0).val ((y 1).val / 128) ((y 1).val % 128)

theorem leaveZ {R : ℕ → ℕ → ℕ → EReal} {Lo : List (View.Piece (Elt Ideal) S256x1024 .f32)} (Ho : Good (blkZ R) Lo)
    (a : ℕ) (ha : a % 128 = 0) (h1) (w : FVec Ideal S256x128 .f32)
    (hw : ∀ (i : Fin 256) (l : Fin 128), w (ix2 i l) = R i.val (a / 128) l.val) :
    Good (blkZ R) (⟨Rect.unit (s := S256x1024) ![0, a] S256x128.size h1, w⟩ :: Lo) := by
  refine Ho.cons fun x => ?_
  have x1 : (x 1).val < 128 := (x 1).isLt
  refine (congrArg w (ix2_eta x).symm).trans ((hw (x 0) (x 1)).trans ?_)
  show _ = R (0 + 1 * (x 0).val) ((a + 1 * (x 1).val) / 128) ((a + 1 * (x 1).val) % 128)
  congr 1 <;> first | omega | skip

/-- What the block of the gates holds: four weight tiles, side by side. -/
def blkG (R : ℕ → ℕ → ℕ → ℕ → EReal) (y : S256x4096.Idx) : Elt Ideal .bf16 :=
  Ideal.logistic (R ((y 1).val / 1024) (y 0).val ((y 1).val % 1024 / 128) ((y 1).val % 128))

theorem cast_gate (w : FVec Ideal S256x128 .f32) (c1) (x : S256x128.Idx) :
    truncf (F := Ideal) (φ := .f32) .bf16 (logistic w) c1 x = Ideal.logistic (w (ix2 (x 0) (x 1))) := by
  idx_vars x
  pointwise

theorem leaveG {R : ℕ → ℕ → ℕ → ℕ → EReal} {Lo : List (View.Piece (Elt Ideal) S256x4096 .bf16)} (Ho : Good (blkG R) Lo)
    (a : ℕ) (ha : a % 128 = 0) (h1 c1) (w : FVec Ideal S256x128 .f32)
    (hw : ∀ (i : Fin 256) (l : Fin 128), w (ix2 i l) = R (a / 1024) i.val (a % 1024 / 128) l.val) :
    Good (blkG R) (⟨Rect.unit (s := S256x4096) ![0, a] S256x128.size h1,
      truncf (F := Ideal) (φ := .f32) .bf16 (logistic w) c1⟩ :: Lo) := by
  refine Ho.cons fun x => ?_
  have x1 : (x 1).val < 128 := (x 1).isLt
  refine (cast_gate w c1 x).trans ((congrArg Ideal.logistic (hw (x 0) (x 1))).trans ?_)
  show _ = Ideal.logistic (R ((a + 1 * (x 1).val) / 1024) (0 + 1 * (x 0).val) ((a + 1 * (x 1).val) % 1024 / 128) ((a + 1 * (x 1).val) % 128))
  congr 2 <;> first | omega | skip

/-- What the block of a group strided four holds. -/
def blk4 (A : ℕ → ℕ → ℕ → EReal) (y : S1x4x64x1024.Idx) : Elt Ideal .bf16 :=
  A (4 * (y 2).val + (y 1).val) ((y 3).val / 128) ((y 3).val % 128)

/-- The rows of one residue modulo four, one head, leave for the block. -/
theorem leave4 {Lo : List (View.Piece (Elt Ideal) S1x4x64x1024 .bf16)} (H : Good (slabG A B) L) (Ho : Good (blk4 A) Lo)
    (v : View sig .tc .vmem S3x8x256x128 .f32) (h r a : ℕ) (ha : a = 128 * h) (h1 h4 h5 h6 c1 c2 c3)
    (hc : covered L ((Rect.unit (s := S3x8x256x128) ![0, 0, 0, 0] S1x8x256x128.size h4).withinL
      ⟨![0, h, r, 0], S1x1x64x128.size, ![1, 1, 4, 1], h5⟩ h6) = true) :
    Good (blk4 A) (⟨Rect.unit (s := S1x4x64x1024) ![0, r, 0, a] S1x1x64x128.size h1,
      shapeCast S1x1x64x128 (truncf (F := Ideal) (φ := .f32) .bf16 (shapeCast S64x128 (v.readCov L
        ((Rect.unit (s := S3x8x256x128) ![0, 0, 0, 0] S1x8x256x128.size h4).withinL
          ⟨![0, h, r, 0], S1x1x64x128.size, ![1, 1, 4, 1], h5⟩ h6)) c1) c2) c3⟩ :: Lo) := by
  refine Ho.cons fun x => ?_
  have x1 : (x 1).val < 1 := (x 1).isLt
  have x3 : (x 3).val < 128 := (x 3).isLt
  refine (cast_leave4 _ c1 c2 c3 x).trans ((H.read v hc _).trans ?_)
  refine (slabG_one (i := r + 4 * (x 2).val) (h := h) (l := (x 3).val) rfl (show 0 + h + 1 * 0 = h by omega)
    (show 0 + r + 4 * (x 2).val = r + 4 * (x 2).val by omega) (show 0 + 0 + 1 * (x 3).val = (x 3).val by omega)).trans ?_
  show _ = A (4 * (0 + 1 * (x 2).val) + (r + 1 * (x 1).val)) ((a + 1 * (x 3).val) / 128) ((a + 1 * (x 3).val) % 128)
  congr 1 <;> first | omega | skip

/-- What the block of a group strided sixteen holds. -/
def blk16 (B : ℕ → ℕ → ℕ → EReal) (y : S1x16x16x1024.Idx) : Elt Ideal .bf16 :=
  B (16 * (y 2).val + (y 1).val) ((y 3).val / 128) ((y 3).val % 128)

/-- The rows of one residue modulo sixteen, one head, leave for the block. -/
theorem leave16 {Lo : List (View.Piece (Elt Ideal) S1x16x16x1024 .bf16)} (H : Good (slabG A B) L) (Ho : Good (blk16 B) Lo)
    (v : View sig .tc .vmem S3x8x256x128 .f32) (h r k a : ℕ) (ha : a = 128 * h) (hr : r < 16)
    (hk : k = 64 * (r % 4) + r / 4) (h1 h4 h5 h6 c1 c2 c3)
    (hc : covered L ((Rect.unit (s := S3x8x256x128) ![1, 0, 0, 0] S2x8x256x128.size h4).withinL
      ⟨![1, h, k, 0], S1x1x16x128.size, ![1, 1, 4, 1], h5⟩ h6) = true) :
    Good (blk16 B) (⟨Rect.unit (s := S1x16x16x1024) ![0, r, 0, a] S1x1x16x128.size h1,
      shapeCast S1x1x16x128 (truncf (F := Ideal) (φ := .f32) .bf16 (shapeCast S16x128 (v.readCov L
        ((Rect.unit (s := S3x8x256x128) ![1, 0, 0, 0] S2x8x256x128.size h4).withinL
          ⟨![1, h, k, 0], S1x1x16x128.size, ![1, 1, 4, 1], h5⟩ h6)) c1) c2) c3⟩ :: Lo) := by
  refine Ho.cons fun x => ?_
  have x1 : (x 1).val < 1 := (x 1).isLt
  have x2 : (x 2).val < 16 := (x 2).isLt
  have x3 : (x 3).val < 128 := (x 3).isLt
  refine (cast_leave16 _ c1 c2 c3 x).trans ((H.read v hc _).trans ?_)
  refine (slabG_three (i := r + 16 * (x 2).val) (h := h) (l := (x 3).val) rfl (show 0 + h + 1 * 0 = h by omega)
    (show 0 + k + 4 * (x 2).val = k + 4 * (x 2).val by omega) (show 0 + 0 + 1 * (x 3).val = (x 3).val by omega)
    (by omega)).trans ?_
  show _ = B (16 * (0 + 1 * (x 2).val) + (r + 1 * (x 1).val)) ((a + 1 * (x 3).val) / 128) ((a + 1 * (x 3).val) % 128)
  congr 1 <;> first | omega | skip

variable (m : (ℓ : Loc nD τ sig) → Buf (Elt Ideal) ℓ)

theorem out12 (c : Dev nD) (t : Fin cfg0.N) (y) :
    (outsAt0 m c t).2.2.1 y = blk4 (qB (iblk m c 0 t) (iblk m c 3 t) (iblk m c 9 t)) y := by
  frame_out
  refine Good.canon ?_ y ?_
  · apply share (G := slabG (qB (iblk m c 0 t) (iblk m c 3 t) (iblk m c 9 t)) (qB (iblk m c 0 t) (iblk m c 4 t) (iblk m c 9 t)))
    · intro H
      iterate 32
        refine leave4 H ?_ _ _ _ _ ?_ _ _ _ _ _ _ _ ?_
        rotate_left
        · rfl
        · sl_kernel_rfl
      exact Good.nil _
    · iterate 8
        refine store_head' ?_ _ _ _ _ _ _ ?_
        rotate_left
        · intro i l
          open_payloads
          refine head_at _ _ _ _ _ _ _ _ ?_ ?_ i l
          · decide
          · rfl
      iterate 32
        refine move ?_ _ _ _ _ ?_ ?_ _ _ _ _ _ _ _ _ ?_
        rotate_left
        · decide
        · rfl
        · sl_kernel_rfl
      iterate 8
        refine store_head ?_ _ _ _ _ _ _ ?_
        rotate_left
        · intro i l
          open_payloads
          refine head_at _ _ _ _ _ _ _ _ ?_ ?_ i l
          · decide
          · rfl
      exact Good.nil _
  · exact View.cover_of_tiledL (s := S1x4x64x1024) _ S1x1x64x128.size (by sl_kernel_rfl) y

theorem out13 (c : Dev nD) (t : Fin cfg0.N) (y) :
    (outsAt0 m c t).2.2.2.1 y = blk16 (qB (iblk m c 0 t) (iblk m c 4 t) (iblk m c 9 t)) y := by
  frame_out
  refine Good.canon ?_ y ?_
  · apply share (G := slabG (qB (iblk m c 0 t) (iblk m c 3 t) (iblk m c 9 t)) (qB (iblk m c 0 t) (iblk m c 4 t) (iblk m c 9 t)))
    · intro H
      iterate 128
        refine leave16 H ?_ _ _ _ _ _ ?_ ?_ ?_ _ _ _ _ _ _ _ ?_
        rotate_left
        · rfl
        · decide
        · rfl
        · sl_kernel_rfl
      exact Good.nil _
    · iterate 32
        refine move ?_ _ _ _ _ ?_ ?_ _ _ _ _ _ _ _ _ ?_
        rotate_left
        · decide
        · rfl
        · sl_kernel_rfl
      iterate 8
        refine store_head ?_ _ _ _ _ _ _ ?_
        rotate_left
        · intro i l
          open_payloads
          refine head_at _ _ _ _ _ _ _ _ ?_ ?_ i l
          · decide
          · rfl
      exact Good.nil _
  · exact View.cover_of_tiledL (s := S1x16x16x1024) _ S1x1x16x128.size (by sl_kernel_rfl) y

theorem out11 (c : Dev nD) (t : Fin cfg0.N) (y) :
    (outsAt0 m c t).2.1 y = blk1 (qB (iblk m c 0 t) (iblk m c 2 t) (iblk m c 9 t)) y := by
  frame_out
  refine Good.canon ?_ y ?_
  · iterate 8
      refine leave1 ?_ _ ?_ _ _ _ _ ?_
      rotate_left
      · rfl
      · intro i l
        open_payloads
        refine head_at _ _ _ _ _ _ _ _ ?_ ?_ i l
        · decide
        · rfl
    exact Good.nil _
  · exact View.cover_of_tiledL (s := S1x1x256x1024) _ S1x1x256x128.size (by sl_kernel_rfl) y

theorem out10 (c : Dev nD) (t : Fin cfg0.N) (y) :
    (outsAt0 m c t).1 y = blkZ (rawB (iblk m c 0 t) (iblk m c 1 t)) y := by
  dsimp only [outsAt0]
  frame_out
  refine Good.canon ?_ y ?_
  · iterate 8
      refine leaveZ ?_ _ ?_ _ _ ?_
      rotate_left
      · rfl
      · intro i l
        open_payloads
        refine slice_at _ _ _ _ _ _ _ ?_ ?_ i l
        · decide
        · rfl
    exact Good.nil _
  · exact View.cover_of_tiledL (s := S256x1024) _ S256x128.size (by sl_kernel_rfl) y

/-- The weight tile of a gate. -/
def gateW (c : Dev nD) (t : Fin cfg0.N) : ℕ → Vec Ideal S2048x1024 .bf16
  | 0 => iblk m c 5 t
  | 1 => iblk m c 6 t
  | 2 => iblk m c 7 t
  | _ => iblk m c 8 t

theorem out14 (c : Dev nD) (t : Fin cfg0.N) (y) :
    (outsAt0 m c t).2.2.2.2 y = blkG (fun g => rawB (iblk m c 0 t) (gateW m c t g)) y := by
  frame_out
  refine Good.canon ?_ y ?_
  · iterate 32
      refine leaveG ?_ _ ?_ _ _ _ ?_
      rotate_left
      · rfl
      · intro i l
        open_payloads
        refine slice_at _ _ _ _ _ _ _ ?_ ?_ i l
        · decide
        · rfl
    exact Good.nil _
  · exact View.cover_of_tiledL (s := S256x4096) _ S256x128.size (by sl_kernel_rfl) y

end Cert.ProjA

end
-- ==== Proof.ProjARef.lean ====
/- The first projection's reference: its five results over the arguments, and each at an index. -/
module

public import proofs.«01_k».proof.Proof.Gen.Reference5Ideal.Run
public import proofs.«01_k».proof.Proof.ProjRows
public import Idealize.ShloMosaic.Lib.Pipeline.ValueKit

@[expose] public section

set_option maxRecDepth 16384

noncomputable section

namespace Cert.ProjA

open Idealize.ShloMosaic Idealize.ShloMosaic.TcCoe Idealize.SL.Sem
open Cert.Reference5Ideal Cert.Reference5Ideal.Gen Cert.FfnRows Cert.ProjRows

/-- The rows against the whole weight. -/
def PROJ (X0 : FVec Ideal S32768x2048 .bf16) (X1 : FVec Ideal S2048x14336 .bf16) : FVec Ideal S32768x14336 .f32 :=
  Host.dotGeneral dot_S32768x2048_S2048x14336_S32768x14336_1_0_0_1_n_n none (extf .f32 X0 bitsLt_bf16_f32) (extf .f32 X1 bitsLt_bf16_f32)

/-- The query heads before they are scaled. -/
def heads (X0 : FVec Ideal S32768x2048 .bf16) (X1 : FVec Ideal S2048x14336 .bf16) : FVec Ideal S16x2048x3x8x128 .f32 :=
  shapeCast S16x2048x3x8x128 (extractStridedSlice S32768x3072 ![0, 1024] (PROJ X0 X1) slices_S32768x14336_S32768x3072_0_1024) shapeCasts_S32768x3072_S16x2048x3x8x128

/-- The query heads, scaled. -/
def queries (X0 : FVec Ideal S32768x2048 .bf16) (X1 : FVec Ideal S2048x14336 .bf16) (X2 : FVec Ideal S1x128 .f32) : FVec Ideal S16x2048x3x8x128 .f32 :=
  mulf (mulf (mulf (heads X0 X1) (broadcastInDim S16x2048x3x8x128 ![0, 1, 2, 3, 4] bcast_S16x2048x3x8x1_S16x2048x3x8x128_0_1_2_3_4 (Host.rsqrt (addf (Host.divf (broadcastInDim S16x2048x3x8x1 ![0, 1, 2, 3] bcast_S16x2048x3x8_S16x2048x3x8x1_0_1_2_3 (Host.reduceAdd (mulf (heads X0 X1) (heads X0 X1)) (constant S_ .f32 0x00000000#32) reducesTo_S16x2048x3x8x128_S16x2048x3x8_d4 h_S_)) (broadcastInDim S16x2048x3x8x1 ![] bcast_S_S16x2048x3x8x1 (constant S_ .f32 0x43000000#32))) (broadcastInDim S16x2048x3x8x1 ![] bcast_S_S16x2048x3x8x1 (constant S_ .f32 0x358637BD#32)))))) (broadcastInDim S16x2048x3x8x128 ![0, 1, 2, 3, 4] bcast_S1x1x1x1x128_S16x2048x3x8x128_0_1_2_3_4 (broadcastInDim S1x1x1x1x128 ![4] bcast_S128_S1x1x1x1x128_4 (shapeCast _ X2 shapeCasts_S1x128_S128)))) (broadcastInDim S16x2048x3x8x128 ![] bcast_S_S16x2048x3x8x128 (constant S_ .f32 0x3E0293EE#32))

/-- The five results over the arguments. -/
def REFZ (X0 : FVec Ideal S32768x2048 .bf16) (X1 : FVec Ideal S2048x14336 .bf16) : FVec Ideal S32768x1024 .f32 :=
  extractStridedSlice S32768x1024 ![0, 0] (PROJ X0 X1) slices_S32768x14336_S32768x1024_0_0
def REFQ0 (X0 : FVec Ideal S32768x2048 .bf16) (X1 : FVec Ideal S2048x14336 .bf16) (X2 : FVec Ideal S1x128 .f32) : FVec Ideal S16x1x2048x1024 .bf16 :=
  truncf .bf16 (transpose S16x1x2048x1024 [0, 2, 1, 3] (shapeCast _ (shapeCast _ (extractStridedSlice S16x2048x1x8x128 ![0, 0, 0, 0, 0] (queries X0 X1 X2) slices_S16x2048x3x8x128_S16x2048x1x8x128_0_0_0_0_0) shapeCasts_S16x2048x1x8x128_S16x2048x8x128) shapeCasts_S16x2048x8x128_S16x2048x1x1024) transposes_S16x2048x1x1024_S16x1x2048x1024_0_2_1_3) bitsLt_bf16_f32
def REFQ1 (X0 : FVec Ideal S32768x2048 .bf16) (X1 : FVec Ideal S2048x14336 .bf16) (X2 : FVec Ideal S1x128 .f32) : FVec Ideal S16x4x512x1024 .bf16 :=
  truncf .bf16 (transpose S16x4x512x1024 [0, 2, 1, 3] (shapeCast _ (shapeCast _ (extractStridedSlice S16x2048x1x8x128 ![0, 0, 1, 0, 0] (queries X0 X1 X2) slices_S16x2048x3x8x128_S16x2048x1x8x128_0_0_1_0_0) shapeCasts_S16x2048x1x8x128_S16x2048x8x128) shapeCasts_S16x2048x8x128_S16x512x4x1024) transposes_S16x512x4x1024_S16x4x512x1024_0_2_1_3) bitsLt_bf16_f32
def REFQ2 (X0 : FVec Ideal S32768x2048 .bf16) (X1 : FVec Ideal S2048x14336 .bf16) (X2 : FVec Ideal S1x128 .f32) : FVec Ideal S16x16x128x1024 .bf16 :=
  truncf .bf16 (transpose S16x16x128x1024 [0, 2, 1, 3] (shapeCast _ (shapeCast _ (extractStridedSlice S16x2048x1x8x128 ![0, 0, 2, 0, 0] (queries X0 X1 X2) slices_S16x2048x3x8x128_S16x2048x1x8x128_0_0_2_0_0) shapeCasts_S16x2048x1x8x128_S16x2048x8x128) shapeCasts_S16x2048x8x128_S16x128x16x1024) transposes_S16x128x16x1024_S16x16x128x1024_0_2_1_3) bitsLt_bf16_f32
def REFG (X0 : FVec Ideal S32768x2048 .bf16) (X1 : FVec Ideal S2048x14336 .bf16) : FVec Ideal S32768x4096 .bf16 :=
  truncf .bf16 (Host.divf (broadcastInDim S32768x4096 ![] bcast_S_S32768x4096 (constant S_ .f32 0x3F800000#32)) (addf (broadcastInDim S32768x4096 ![] bcast_S_S32768x4096 (constant S_ .f32 0x3F800000#32)) (Host.exp (Host.negf (extractStridedSlice S32768x4096 ![0, 10240] (PROJ X0 X1) slices_S32768x14336_S32768x4096_0_10240))))) bitsLt_bf16_f32

/-- An entry of the product. -/
def proj (X0 : FVec Ideal S32768x2048 .bf16) (X1 : FVec Ideal S2048x14336 .bf16) (r c : ℕ) : EReal :=
  ∑ k : Fin 2048, X0 (ix2 ⟨r % 32768, by omega⟩ k) * X1 (ix2 k ⟨c % 14336, by omega⟩)

theorem proj_at (X0 : FVec Ideal S32768x2048 .bf16) (X1 : FVec Ideal S2048x14336 .bf16) (r : Fin 32768) (l : Fin 14336) : PROJ X0 X1 (ix2 r l) = proj X0 X1 r.val l.val := by
  pointwise! [PROJ, proj]
  simp only [Nat.mod_eq_of_lt r.isLt, Nat.mod_eq_of_lt l.isLt]

/-- A scaled head at an entry: row `r`, the head whose columns begin at `c`, lane `l`. -/
def query (X0 : FVec Ideal S32768x2048 .bf16) (X1 : FVec Ideal S2048x14336 .bf16) (X2 : FVec Ideal S1x128 .f32) (r c l : ℕ) : EReal :=
  rms headLen eps (fun e : Fin 128 => proj X0 X1 r (c + e.val)) (fun e => X2 (ix2 0 e)) ⟨l % 128, by omega⟩ * qScale

theorem heads_at (X0 : FVec Ideal S32768x2048 .bf16) (X1 : FVec Ideal S2048x14336 .bf16) (b : Fin 16) (s : Fin 2048) (g : Fin 3) (h : Fin 8) (e : Fin 128) :
    heads X0 X1 (ix5 b s g h e) = proj X0 X1 (b.val * 2048 + s.val) (1024 + g.val * 1024 + h.val * 128 + e.val) := by
  pointwise [heads, proj_at]
  simp only [Nat.add_assoc]

theorem queries_at (X0 : FVec Ideal S32768x2048 .bf16) (X1 : FVec Ideal S2048x14336 .bf16) (X2 : FVec Ideal S1x128 .f32) (b : Fin 16) (s : Fin 2048) (g : Fin 3) (h : Fin 8) (e : Fin 128) :
    queries X0 X1 X2 (ix5 b s g h e) = query X0 X1 X2 (b.val * 2048 + s.val) (1024 + g.val * 1024 + h.val * 128) e.val := by
  pointwise [queries, query, rms, heads_at]
  simp only [Nat.mod_eq_of_lt e.isLt]

theorem refz_at (X0 : FVec Ideal S32768x2048 .bf16) (X1 : FVec Ideal S2048x14336 .bf16) (r : Fin 32768) (l : Fin 1024) : REFZ X0 X1 (ix2 r l) = proj X0 X1 r.val l.val := by
  pointwise [REFZ, proj_at]

theorem refg_at (X0 : FVec Ideal S32768x2048 .bf16) (X1 : FVec Ideal S2048x14336 .bf16) (r : Fin 32768) (l : Fin 4096) :
    REFG X0 X1 (ix2 r l) = Ideal.logistic (proj X0 X1 r.val (10240 + l.val)) := by
  pointwise [REFG, proj_at, Ideal.logistic]

theorem refq0_at (X0 : FVec Ideal S32768x2048 .bf16) (X1 : FVec Ideal S2048x14336 .bf16) (X2 : FVec Ideal S1x128 .f32) (b : Fin 16) (r : Fin 1) (j : Fin 2048) (l : Fin 1024) :
    REFQ0 X0 X1 X2 (ix4 b r j l) = query X0 X1 X2 (b.val * 2048 + j.val) (1024 + l.val / 128 * 128) (l.val % 128) := by
  pointwise [REFQ0, queries_at]

theorem refq1_at (X0 : FVec Ideal S32768x2048 .bf16) (X1 : FVec Ideal S2048x14336 .bf16) (X2 : FVec Ideal S1x128 .f32) (b : Fin 16) (r : Fin 4) (j : Fin 512) (l : Fin 1024) :
    REFQ1 X0 X1 X2 (ix4 b r j l)
      = query X0 X1 X2 (b.val * 2048 + (j.val * 4 + r.val)) (2048 + l.val / 128 * 128) (l.val % 128) := by
  pointwise [REFQ1, queries_at]

theorem refq2_at (X0 : FVec Ideal S32768x2048 .bf16) (X1 : FVec Ideal S2048x14336 .bf16) (X2 : FVec Ideal S1x128 .f32) (b : Fin 16) (r : Fin 16) (j : Fin 128) (l : Fin 1024) :
    REFQ2 X0 X1 X2 (ix4 b r j l)
      = query X0 X1 X2 (b.val * 2048 + (j.val * 16 + r.val)) (3072 + l.val / 128 * 128) (l.val % 128) := by
  pointwise [REFQ2, queries_at]

end Cert.ProjA

end
-- ==== Proof.ProjAEnd.lean ====
/- The first projection: its five result arrays after the run are the reference's terms of the arguments. -/
module

public import proofs.«01_k».proof.Proof.ProjA
public import proofs.«01_k».proof.Proof.ProjARef

@[expose] public section

set_option maxRecDepth 16384

noncomputable section

namespace Cert.ProjA

open Idealize.ShloMosaic Idealize.ShloMosaic.TcCoe Idealize.SL.Sem
open Idealize.ShloMosaic.Pipeline (Dat)
open Cert.Kernel5Ideal Cert.Kernel5Ideal.Gen Cert.Pieces Cert.ProjRows Cert.FfnRows

variable (m : (ℓ : Loc nD τ sig) → Buf (Elt Ideal) ℓ)

/-- The windows' block indices at a point: the rows are the point's tile, every weight window stands on its own tile,
    and a group's block is the sequence's and the row tile's within it. -/
theorem idx : ∀ t : Fin cfg0.N, win0_0.index t = ![t.val, 0] ∧ win0_1.index t = ![0, 0] ∧ win0_2.index t = ![0, 1]
    ∧ win0_3.index t = ![0, 2] ∧ win0_4.index t = ![0, 3] ∧ win0_5.index t = ![0, 10] ∧ win0_6.index t = ![0, 11]
    ∧ win0_7.index t = ![0, 12] ∧ win0_8.index t = ![0, 13] ∧ win0_9.index t = ![0, 0]
    ∧ win0_10.index t = ![t.val, 0] ∧ win0_11.index t = ![t.val / 8, 0, t.val % 8, 0]
    ∧ win0_12.index t = ![t.val / 8, 0, t.val % 8, 0] ∧ win0_13.index t = ![t.val / 8, 0, t.val % 8, 0]
    ∧ win0_14.index t = ![t.val, 0] :=
  (by decide +kernel : ∀ t : Fin grid0.N, _)

/-- The arguments. -/
abbrev U (c : Dev nD) := m ((c : Thread nD τ).loc main_arg0)
abbrev W (c : Dev nD) := m ((c : Thread nD τ).loc main_arg1)
abbrev Q (c : Dev nD) := m ((c : Thread nD τ).loc main_arg2)

/-- The row tile at an entry. -/
theorem rows_at (c : Dev nD) (t : Fin cfg0.N) (i : Fin 256) (k : Fin 2048) :
    iblk m c 0 t (ix2 i k) = U m c (ix2 ⟨(256 * t.val + i.val) % 32768, by omega⟩ k) := by
  have ht : t.val < 128 := t.isLt
  have hi := i.isLt
  blk_point [iblk, V, idx t]

/-- The gain at an entry. -/
theorem gain_at (c : Dev nD) (t : Fin cfg0.N) (e : Fin 128) : iblk m c 9 t (ix2 0 e) = Q m c (ix2 0 e) := by
  blk_point [iblk, V, idx t]

/-- That a weight tile is the columns of the weight from `b` on. -/
def Tile (c : Dev nD) (T : Vec Ideal S2048x1024 .bf16) (b : ℕ) : Prop :=
  ∀ (k : Fin 2048) (l : Fin 1024), T (ix2 k l) = W m c (ix2 k ⟨(b + l.val) % 14336, by omega⟩)

theorem tile1 (c : Dev nD) (t : Fin cfg0.N) : Tile m c (iblk m c 1 t) 0 := fun k l => by
  have hl := l.isLt
  blk_point [iblk, V, idx t]

theorem tile2 (c : Dev nD) (t : Fin cfg0.N) : Tile m c (iblk m c 2 t) 1024 := fun k l => by
  have hl := l.isLt
  blk_point [iblk, V, idx t]

theorem tile3 (c : Dev nD) (t : Fin cfg0.N) : Tile m c (iblk m c 3 t) 2048 := fun k l => by
  have hl := l.isLt
  blk_point [iblk, V, idx t]

theorem tile4 (c : Dev nD) (t : Fin cfg0.N) : Tile m c (iblk m c 4 t) 3072 := fun k l => by
  have hl := l.isLt
  blk_point [iblk, V, idx t]

theorem tile5 (c : Dev nD) (t : Fin cfg0.N) : Tile m c (iblk m c 5 t) 10240 := fun k l => by
  have hl := l.isLt
  blk_point [iblk, V, idx t]

theorem tile6 (c : Dev nD) (t : Fin cfg0.N) : Tile m c (iblk m c 6 t) 11264 := fun k l => by
  have hl := l.isLt
  blk_point [iblk, V, idx t]

theorem tile7 (c : Dev nD) (t : Fin cfg0.N) : Tile m c (iblk m c 7 t) 12288 := fun k l => by
  have hl := l.isLt
  blk_point [iblk, V, idx t]

theorem tile8 (c : Dev nD) (t : Fin cfg0.N) : Tile m c (iblk m c 8 t) 13312 := fun k l => by
  have hl := l.isLt
  blk_point [iblk, V, idx t]

/-- A tile's product at an entry is the whole product's. -/
theorem rawB_at {c : Dev nD} {T : Vec Ideal S2048x1024 .bf16} {b : ℕ} (hT : Tile m c T b) (t : Fin cfg0.N) (i h l : ℕ) :
    rawB (iblk m c 0 t) T i h l = proj (U m c) (W m c) (256 * t.val + i % 256) (b + (h % 8 * 128 + l % 128)) := by
  unfold rawB raw proj
  refine Finset.sum_congr rfl fun k _ => ?_
  exact congrArg₂ (· * ·) (rows_at m c t _ k) (hT k _)

/-- A scaled head of a tile at an entry is the whole's. -/
theorem qB_at {c : Dev nD} {T : Vec Ideal S2048x1024 .bf16} {b : ℕ} (hT : Tile m c T b) (t : Fin cfg0.N) (i h l : ℕ) :
    qB (iblk m c 0 t) T (iblk m c 9 t) i h l
      = query (U m c) (W m c) (Q m c) (256 * t.val + i % 256) (b + h % 8 * 128) l := by
  unfold qB normed query
  congr 2
  · funext e
    rw [show raw _ _ i h e.val = _ from rawB_at m hT t i h e.val, Nat.mod_eq_of_lt e.isLt, Nat.add_assoc]
  · funext e
    exact gain_at m c t e

theorem final12 (c : Dev nD) : (dats m 0 c).arrAt 12 (cfgs 0).N = REFQ1 (U m c) (W m c) (Q m c) := by
  refine (dats m 0 c).arrAt_eq_of_covers 12 _ (by decide +kernel) fun t _ y => ?_
  have ht : t.val < 128 := t.isLt
  blk_simp
  rw [after0_12, out12]
  idx_vars y
  unfold blk4
  rw [qB_at m (tile3 m c t)]
  have he : ((View.whole main_v0_2).slice (win0_12.rect t)).emb (ix4 y0 y1 y2 y3)
      = ix4 (⟨t.val / 8, by omega⟩ : Fin 16) y1 (⟨64 * (t.val % 8) + y2.val, by omega⟩ : Fin 512) y3 := by
    blk_ext [idx t]
  rw [he, refq1_at]
  refine congrFun (congr (congrArg _ ?_) ?_) _
  · show 256 * t.val + (4 * y2.val + y1.val) % 256 = t.val / 8 * 2048 + ((64 * (t.val % 8) + y2.val) * 4 + y1.val)
    omega
  · show 2048 + y3.val / 128 % 8 * 128 = 2048 + y3.val / 128 * 128
    omega

theorem final13 (c : Dev nD) : (dats m 0 c).arrAt 13 (cfgs 0).N = REFQ2 (U m c) (W m c) (Q m c) := by
  refine (dats m 0 c).arrAt_eq_of_covers 13 _ (by decide +kernel) fun t _ y => ?_
  have ht : t.val < 128 := t.isLt
  blk_simp
  rw [after0_13, out13]
  idx_vars y
  unfold blk16
  rw [qB_at m (tile4 m c t)]
  have he : ((View.whole main_v0_3).slice (win0_13.rect t)).emb (ix4 y0 y1 y2 y3)
      = ix4 (⟨t.val / 8, by omega⟩ : Fin 16) y1 (⟨16 * (t.val % 8) + y2.val, by omega⟩ : Fin 128) y3 := by
    blk_ext [idx t]
  rw [he, refq2_at]
  refine congrFun (congr (congrArg _ ?_) ?_) _
  · show 256 * t.val + (16 * y2.val + y1.val) % 256 = t.val / 8 * 2048 + ((16 * (t.val % 8) + y2.val) * 16 + y1.val)
    omega
  · show 3072 + y3.val / 128 % 8 * 128 = 3072 + y3.val / 128 * 128
    omega

theorem final11 (c : Dev nD) : (dats m 0 c).arrAt 11 (cfgs 0).N = REFQ0 (U m c) (W m c) (Q m c) := by
  refine (dats m 0 c).arrAt_eq_of_covers 11 _ (by decide +kernel) fun t _ y => ?_
  have ht : t.val < 128 := t.isLt
  blk_simp
  rw [after0_11, out11]
  idx_vars y
  unfold blk1
  rw [qB_at m (tile2 m c t)]
  have he : ((View.whole main_v0_1).slice (win0_11.rect t)).emb (ix4 y0 y1 y2 y3)
      = ix4 (⟨t.val / 8, by omega⟩ : Fin 16) y1 (⟨256 * (t.val % 8) + y2.val, by omega⟩ : Fin 2048) y3 := by
    blk_ext [idx t]
  rw [he, refq0_at]
  refine congrFun (congr (congrArg _ ?_) ?_) _
  · show 256 * t.val + y2.val % 256 = t.val / 8 * 2048 + (256 * (t.val % 8) + y2.val)
    omega
  · show 1024 + y3.val / 128 % 8 * 128 = 1024 + y3.val / 128 * 128
    omega

theorem final10 (c : Dev nD) : (dats m 0 c).arrAt 10 (cfgs 0).N = REFZ (U m c) (W m c) := by
  refine (dats m 0 c).arrAt_eq_of_covers 10 _ (by decide +kernel) fun t _ y => ?_
  have ht : t.val < 128 := t.isLt
  blk_simp
  rw [after0_10, out10]
  idx_vars y
  unfold blkZ
  rw [rawB_at m (tile1 m c t)]
  have he : ((View.whole main_v0_0).slice (win0_10.rect t)).emb (ix2 y0 y1)
      = ix2 (⟨256 * t.val + y0.val, by omega⟩ : Fin 32768) y1 := by
    blk_ext [idx t]
  rw [he, refz_at]
  refine congr (congrArg _ ?_) ?_
  · show 256 * t.val + y0.val % 256 = 256 * t.val + y0.val
    omega
  · show 0 + (y1.val / 128 % 8 * 128 + y1.val % 128 % 128) = y1.val
    omega

/-- Every gate tile is the gates' columns of the weight. -/
theorem gate_tile (c : Dev nD) (t : Fin cfg0.N) : ∀ g < 4, Tile m c (gateW m c t g) (10240 + 1024 * g)
  | 0, _ => tile5 m c t
  | 1, _ => tile6 m c t
  | 2, _ => tile7 m c t
  | 3, _ => tile8 m c t

theorem final14 (c : Dev nD) : (dats m 0 c).arrAt 14 (cfgs 0).N = REFG (U m c) (W m c) := by
  refine (dats m 0 c).arrAt_eq_of_covers 14 _ (by decide +kernel) fun t _ y => ?_
  have ht : t.val < 128 := t.isLt
  blk_simp
  rw [after0_14, out14]
  idx_vars y
  unfold blkG
  refine (congrArg Ideal.logistic (rawB_at m (gate_tile m c t (y1.val / 1024) (by omega)) t _ _ _)).trans ?_
  have he : ((View.whole main_v0_4).slice (win0_14.rect t)).emb (ix2 y0 y1)
      = ix2 (⟨256 * t.val + y0.val, by omega⟩ : Fin 32768) y1 := by
    blk_ext [idx t]
  rw [he, refg_at]
  refine congrArg _ (congr (congrArg _ ?_) ?_)
  · show 256 * t.val + y0.val % 256 = 256 * t.val + y0.val
    omega
  · show 10240 + 1024 * (y1.val / 1024) + (y1.val % 1024 / 128 % 8 * 128 + y1.val % 128 % 128) = 10240 + y1.val
    omega

end Cert.ProjA

end
-- ==== Proof.ProjBRun.lean ====
/- The second projection's body, run once: what it leaves in each output's buffer, as a list of the rectangles that it
   stores, and the proof that it runs to its end with that. -/
module

public import proofs.«01_k».proof.Proof.Gen.Kernel6Ideal.Frame
public import proofs.«01_k».proof.Proof.Gen.Kernel6Ideal.Skeleton
public import Idealize.ShloMosaic.Lib.Exec
public import Idealize.ShloMosaic.Lib.Tactic

@[expose] public section

set_option maxRecDepth 16384

noncomputable section

namespace Cert.ProjB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

set_option maxHeartbeats 20000000 in set_option sl_exec.squeezeSlice true in
/-- The body on whole buffers, its inputs' at given contents and everything else at anything, runs to its end: the inputs
    are as they were, the scratch holds something, and each output's buffer has the listed rectangles written. -/
noncomputable def bodyRun (c : Dev nD) (i : grid0.Coords) (arg1 : Memref sig .tc .vmem S256x2048 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x128 .f32) (harg8 : arg8.IsWhole) (arg9 : Memref sig .tc .vmem S1x1x256x1024 .bf16) (harg9 : arg9.IsWhole) (arg10 : Memref sig .tc .vmem S1x4x64x1024 .bf16) (harg10 : arg10.IsWhole) (arg11 : Memref sig .tc .vmem S1x16x16x1024 .bf16) (harg11 : arg11.IsWhole) (arg12 : Memref sig .tc .vmem S1x1x256x1024 .bf16) (harg12 : arg12.IsWhole) (arg13 : Memref sig .tc .vmem S1x4x64x1024 .bf16) (harg13 : arg13.IsWhole) (arg14 : Memref sig .tc .vmem S1x16x16x1024 .bf16) (harg14 : arg14.IsWhole) (arg15 : Memref sig .tc .vmem S1x1x1024x128 .f32) (harg15 : arg15.IsWhole) (arg16 : Memref sig .tc .vmem S1x1x2048x128 .f32) (harg16 : arg16.IsWhole) (arg17 : Memref sig .tc .vmem S1x1x2048x128 .f32) (harg17 : arg17.IsWhole) (arg18 : Memref sig .tc .vmem S1x1x1024x128 .f32) (harg18 : arg18.IsWhole) (arg19 : Memref sig .tc .vmem S1x1x2048x128 .f32) (harg19 : arg19.IsWhole) (arg20 : Memref sig .tc .vmem S1x1x2048x128 .f32) (harg20 : arg20.IsWhole) (arg21 : Memref sig .tc .vmem S2x3x8x256x128 .f32) (harg21 : arg21.IsWhole)
    (x0 : Vec F S256x2048 .bf16) (x1 : Vec F S2048x1024 .bf16) (x2 : Vec F S2048x1024 .bf16) (x3 : Vec F S2048x1024 .bf16) (x4 : Vec F S2048x1024 .bf16) (x5 : Vec F S2048x1024 .bf16) (x6 : Vec F S2048x1024 .bf16) (x7 : Vec F S1x128 .f32) :
    Σ' (L8 : List (View.Piece (Elt F) S1x1x256x1024 .bf16)), Σ' (L9 : List (View.Piece (Elt F) S1x4x64x1024 .bf16)), Σ' (L10 : List (View.Piece (Elt F) S1x16x16x1024 .bf16)), Σ' (L11 : List (View.Piece (Elt F) S1x1x256x1024 .bf16)), Σ' (L12 : List (View.Piece (Elt F) S1x4x64x1024 .bf16)), Σ' (L13 : List (View.Piece (Elt F) S1x16x16x1024 .bf16)), Σ' (L14 : List (View.Piece (Elt F) S1x1x1024x128 .f32)), Σ' (L15 : List (View.Piece (Elt F) S1x1x2048x128 .f32)), Σ' (L16 : List (View.Piece (Elt F) S1x1x2048x128 .f32)), Σ' (L17 : List (View.Piece (Elt F) S1x1x1024x128 .f32)), Σ' (L18 : List (View.Piece (Elt F) S1x1x2048x128 .f32)), { L19 : List (View.Piece (Elt F) S1x1x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ d, owns (c : Thread nD τ) arg21 fullShare d)) -∗ K ⟨⟩))
          ⊢ wp frame (wpE (defs₀ (F := F)) Variants.none c none) E (cc0_proj_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, fun E K => ?run⟩
  case run =>
    simp only [cc0_proj_b_eq_skeleton]; unfold cc0_proj_b_skel
    simp only [
      k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton, k0_part53_eq_skeleton, k0_part54_eq_skeleton,
      k0_part55_eq_skeleton, k0_part56_eq_skeleton, k0_part57_eq_skeleton, k0_part58_eq_skeleton,
      k0_part59_eq_skeleton, k0_part60_eq_skeleton, k0_part61_eq_skeleton, k0_part62_eq_skeleton,
      k0_part63_eq_skeleton, k0_part64_eq_skeleton, k0_part65_eq_skeleton, k0_part66_eq_skeleton,
      k0_part67_eq_skeleton, k0_part68_eq_skeleton, k0_part69_eq_skeleton, k0_part70_eq_skeleton,
      k0_part71_eq_skeleton, k0_part72_eq_skeleton, k0_part73_eq_skeleton, k0_part74_eq_skeleton,
      k0_part75_eq_skeleton, k0_part76_eq_skeleton, k0_part77_eq_skeleton, k0_part78_eq_skeleton,
      k0_part79_eq_skeleton, k0_part80_eq_skeleton, k0_part81_eq_skeleton, k0_part82_eq_skeleton,
      k0_part83_eq_skeleton, k0_part84_eq_skeleton, k0_part85_eq_skeleton, k0_part86_eq_skeleton,
      k0_part87_eq_skeleton, k0_part88_eq_skeleton, k0_part89_eq_skeleton, k0_part90_eq_skeleton,
      k0_part91_eq_skeleton, k0_part92_eq_skeleton, k0_part93_eq_skeleton, k0_part94_eq_skeleton,
      k0_part95_eq_skeleton, k0_part96_eq_skeleton, k0_part97_eq_skeleton, k0_part98_eq_skeleton,
      k0_part99_eq_skeleton, k0_part100_eq_skeleton, k0_part101_eq_skeleton, k0_part102_eq_skeleton,
      k0_part103_eq_skeleton, k0_part104_eq_skeleton, k0_part105_eq_skeleton, k0_part106_eq_skeleton,
      k0_part107_eq_skeleton, k0_part108_eq_skeleton, k0_part109_eq_skeleton, k0_part110_eq_skeleton,
      k0_part111_eq_skeleton, k0_part112_eq_skeleton, k0_part113_eq_skeleton, k0_part114_eq_skeleton,
      k0_part115_eq_skeleton, k0_part116_eq_skeleton, k0_part117_eq_skeleton, k0_part118_eq_skeleton,
      k0_part119_eq_skeleton, k0_part120_eq_skeleton, k0_part121_eq_skeleton, k0_part122_eq_skeleton,
      k0_part123_eq_skeleton, k0_part124_eq_skeleton, k0_part125_eq_skeleton, k0_part126_eq_skeleton,
      k0_part127_eq_skeleton, k0_part128_eq_skeleton, k0_part129_eq_skeleton, k0_part130_eq_skeleton,
      k0_part131_eq_skeleton, k0_part132_eq_skeleton, k0_part133_eq_skeleton, k0_part134_eq_skeleton,
      k0_part135_eq_skeleton, k0_part136_eq_skeleton, k0_part137_eq_skeleton, k0_part138_eq_skeleton,
      k0_part139_eq_skeleton, k0_part140_eq_skeleton, k0_part141_eq_skeleton, k0_part142_eq_skeleton,
      k0_part143_eq_skeleton, k0_part144_eq_skeleton, k0_part145_eq_skeleton, k0_part146_eq_skeleton,
      k0_part147_eq_skeleton, k0_part148_eq_skeleton, k0_part149_eq_skeleton, k0_part150_eq_skeleton,
      k0_part151_eq_skeleton, k0_part152_eq_skeleton, k0_part153_eq_skeleton, k0_part154_eq_skeleton,
      k0_part155_eq_skeleton, k0_part156_eq_skeleton, k0_part157_eq_skeleton, k0_part158_eq_skeleton,
      k0_part159_eq_skeleton, k0_part160_eq_skeleton, k0_part161_eq_skeleton, k0_part162_eq_skeleton,
      k0_part163_eq_skeleton, k0_part164_eq_skeleton, k0_part165_eq_skeleton, k0_part166_eq_skeleton,
      k0_part167_eq_skeleton, k0_part168_eq_skeleton, k0_part169_eq_skeleton, k0_part170_eq_skeleton,
      k0_part171_eq_skeleton, k0_part172_eq_skeleton, k0_part173_eq_skeleton, k0_part174_eq_skeleton,
      k0_part175_eq_skeleton, k0_part176_eq_skeleton, k0_part177_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _, _; isplitr; swap; · iexact HS0
    ipureintro; rfl

end Cert.ProjB

end
-- ==== Proof.Strides.lean ====
/- Stores through rectangles with gaps: rows written eight apart cover a block. -/
module

public import Idealize.ShloMosaic.Lib.Pipeline.ValueKit
public import proofs.«01_k».proof.Proof.Pieces

@[expose] public section

namespace Cert.Pieces

open Idealize.ShloMosaic

variable {Val : EltTy → Type} {e : EltTy}

/-- That a rectangle is the one with these offsets, sizes and strides. -/
def isRect {S : Shape} (off size stride : Fin S.rank → ℕ) (p : Rect S) : Bool :=
  decide (∀ a, p.off a = off a ∧ p.size a = size a ∧ p.stride a = stride a)

/-- An index that such a rectangle of the list holds is held by a piece of the list. -/
theorem held_of_rect {S : Shape} {off size stride : Fin S.rank → ℕ} {L : List (View.Piece Val S e)}
    (h : L.any (fun p => isRect off size stride p.1) = true) (y : S.Idx)
    (hy : ∀ a, ∃ j < size a, (y a).val = off a + stride a * j) : ∃ p ∈ L, y ∈ p.1.set := by
  obtain ⟨p, hp, hr⟩ := List.any_eq_true.mp h
  have hr := of_decide_eq_true hr
  refine ⟨p, hp, p.1.mem_set.mpr fun a => ?_⟩
  obtain ⟨h1, h2, h3⟩ := hr a
  rw [h1, h2, h3]
  exact hy a

/-- Eight stores of every eighth row, one for each first row, cover a block of rows. -/
theorem cover_eighths (n : ℕ) (L : List (View.Piece Val (⟨4, ![1, 1, 8 * n, 128]⟩ : Shape) e))
    (h : (List.range 8).all (fun r => L.any fun p => isRect ![0, 0, r, 0] ![1, 1, n, 128] ![1, 1, 8, 1] p.1) = true)
    (y : (⟨4, ![1, 1, 8 * n, 128]⟩ : Shape).Idx) : ∃ p ∈ L, y ∈ p.1.set := by
  have y0 : (y 0).val < 1 := (y 0).isLt
  have y1 : (y 1).val < 1 := (y 1).isLt
  have y2 : (y 2).val < 8 * n := (y 2).isLt
  have y3 : (y 3).val < 128 := (y 3).isLt
  refine held_of_rect (List.all_eq_true.mp h ((y 2).val % 8) (List.mem_range.mpr (Nat.mod_lt _ (by omega)))) y fun a => ?_
  match a with
  | 0 => exact ⟨0, Nat.one_pos, by show (y 0).val = 0 + 1 * 0; omega⟩
  | 1 => exact ⟨0, Nat.one_pos, by show (y 1).val = 0 + 1 * 0; omega⟩
  | 2 => exact ⟨(y 2).val / 8, by show _ < n; omega, by show (y 2).val = (y 2).val % 8 + 8 * ((y 2).val / 8); omega⟩
  | 3 => exact ⟨(y 3).val, y3, by show (y 3).val = 0 + 1 * (y 3).val; omega⟩

end Cert.Pieces

end
-- ==== Proof.ProjBFrame.lean ====
/- The second projection: what each output's buffer holds after a grid point, the pipeline's proof data, the body's
   obligation, the run of the whole call, and its frame. -/
module

public import proofs.«01_k».proof.Proof.ProjBRun
public import proofs.«01_k».proof.Proof.Strides
public import Idealize.ShloMosaic.Lib.Ring
public import Idealize.ShloMosaic.Lib.Claim

@[expose] public section

set_option maxRecDepth 16384

noncomputable section

namespace Cert.ProjB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-! ## Buffers -/

abbrev VO8 : View sig .tc .vmem S1x1x256x1024 .bf16 := (Memref.whole cc0_stg8_0 : Memref sig .tc .vmem S1x1x256x1024 .bf16).view
abbrev VO9 : View sig .tc .vmem S1x4x64x1024 .bf16 := (Memref.whole cc0_stg9_0 : Memref sig .tc .vmem S1x4x64x1024 .bf16).view
abbrev VO10 : View sig .tc .vmem S1x16x16x1024 .bf16 := (Memref.whole cc0_stg10_0 : Memref sig .tc .vmem S1x16x16x1024 .bf16).view
abbrev VO11 : View sig .tc .vmem S1x1x256x1024 .bf16 := (Memref.whole cc0_stg11_0 : Memref sig .tc .vmem S1x1x256x1024 .bf16).view
abbrev VO12 : View sig .tc .vmem S1x4x64x1024 .bf16 := (Memref.whole cc0_stg12_0 : Memref sig .tc .vmem S1x4x64x1024 .bf16).view
abbrev VO13 : View sig .tc .vmem S1x16x16x1024 .bf16 := (Memref.whole cc0_stg13_0 : Memref sig .tc .vmem S1x16x16x1024 .bf16).view
abbrev VO14 : View sig .tc .vmem S1x1x1024x128 .f32 := (Memref.whole cc0_stg14_0 : Memref sig .tc .vmem S1x1x1024x128 .f32).view
abbrev VO15 : View sig .tc .vmem S1x1x2048x128 .f32 := (Memref.whole cc0_stg15_0 : Memref sig .tc .vmem S1x1x2048x128 .f32).view
abbrev VO16 : View sig .tc .vmem S1x1x2048x128 .f32 := (Memref.whole cc0_stg16_0 : Memref sig .tc .vmem S1x1x2048x128 .f32).view
abbrev VO17 : View sig .tc .vmem S1x1x1024x128 .f32 := (Memref.whole cc0_stg17_0 : Memref sig .tc .vmem S1x1x1024x128 .f32).view
abbrev VO18 : View sig .tc .vmem S1x1x2048x128 .f32 := (Memref.whole cc0_stg18_0 : Memref sig .tc .vmem S1x1x2048x128 .f32).view
abbrev VO19 : View sig .tc .vmem S1x1x2048x128 .f32 := (Memref.whole cc0_stg19_0 : Memref sig .tc .vmem S1x1x2048x128 .f32).view

abbrev ms0 (t : Fin cfg0.N) : Memref sig .tc .vmem S256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x256x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x4x64x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x16x16x1024 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1x256x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x4x64x1024 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x16x16x1024 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x1x1024x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x1x2048x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x1x2048x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x1x1024x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x1x2048x128 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S1x1x2048x128 .f32 := win0_19.stage (cfg0.slots t 19)
abbrev hs19 (t : Fin cfg0.N) : (ms19 t).IsWhole := hstage0_19 ((cfg0.slots t 19).cast nbuf0_19)
abbrev slab : Memref sig .tc .vmem S2x3x8x256x128 .f32 := Memref.whole cc0_scratch0

/-- The region's invariant: the scratch at some contents, and the generator's register. -/
theorem inv_eq (c : Dev nD) :
    (Pipeline.ΦA spec0 c : sProp 𝕄) = iprop(iprop((∃ d, owns (c : Thread nD τ) slab fullShare d)) ∗ (∃ r, prngReg c r)) := by
  unfold Pipeline.ΦA; rw [scopedRest0_eq]; simp only [slab, owns_whole]; try rfl

variable (m : (ℓ : Loc nD τ sig) → Buf (Elt F) ℓ) (ρ : Dev nD → PrngReg)

/-! ## What the outputs hold after a point -/

/-- What output 8 is written with at a point. -/
abbrev pieces8 (c : Dev nD) (t : Fin cfg0.N) : List (View.Piece (Elt F) S1x1x256x1024 .bf16) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).1

theorem cover8 (c : Dev nD) (t : Fin cfg0.N) (y : S1x1x256x1024.Idx) : ∃ p ∈ pieces8 m c t, y ∈ p.1.set :=
  View.cover_of_tiledL (s := S1x1x256x1024) _ S1x1x256x128.size (by sl_kernel_rfl) y

def left8 (c : Dev nD) (t : Fin cfg0.N) : Vec F S1x1x256x1024 .bf16 :=
  VO8.read (Elt F) (VO8.writes (Elt F) VO8.junk (pieces8 m c t))

/-- What output 9 is written with at a point. -/
abbrev pieces9 (c : Dev nD) (t : Fin cfg0.N) : List (View.Piece (Elt F) S1x4x64x1024 .bf16) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.1

theorem cover9 (c : Dev nD) (t : Fin cfg0.N) (y : S1x4x64x1024.Idx) : ∃ p ∈ pieces9 m c t, y ∈ p.1.set :=
  View.cover_of_tiledL (s := S1x4x64x1024) _ S1x1x64x128.size (by sl_kernel_rfl) y

def left9 (c : Dev nD) (t : Fin cfg0.N) : Vec F S1x4x64x1024 .bf16 :=
  VO9.read (Elt F) (VO9.writes (Elt F) VO9.junk (pieces9 m c t))

/-- What output 10 is written with at a point. -/
abbrev pieces10 (c : Dev nD) (t : Fin cfg0.N) : List (View.Piece (Elt F) S1x16x16x1024 .bf16) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.1

theorem cover10 (c : Dev nD) (t : Fin cfg0.N) (y : S1x16x16x1024.Idx) : ∃ p ∈ pieces10 m c t, y ∈ p.1.set :=
  View.cover_of_tiledL (s := S1x16x16x1024) _ S1x1x16x128.size (by sl_kernel_rfl) y

def left10 (c : Dev nD) (t : Fin cfg0.N) : Vec F S1x16x16x1024 .bf16 :=
  VO10.read (Elt F) (VO10.writes (Elt F) VO10.junk (pieces10 m c t))

/-- What output 11 is written with at a point. -/
abbrev pieces11 (c : Dev nD) (t : Fin cfg0.N) : List (View.Piece (Elt F) S1x1x256x1024 .bf16) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.1

theorem cover11 (c : Dev nD) (t : Fin cfg0.N) (y : S1x1x256x1024.Idx) : ∃ p ∈ pieces11 m c t, y ∈ p.1.set :=
  View.cover_of_tiledL (s := S1x1x256x1024) _ S1x1x256x128.size (by sl_kernel_rfl) y

def left11 (c : Dev nD) (t : Fin cfg0.N) : Vec F S1x1x256x1024 .bf16 :=
  VO11.read (Elt F) (VO11.writes (Elt F) VO11.junk (pieces11 m c t))

/-- What output 12 is written with at a point. -/
abbrev pieces12 (c : Dev nD) (t : Fin cfg0.N) : List (View.Piece (Elt F) S1x4x64x1024 .bf16) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.1

theorem cover12 (c : Dev nD) (t : Fin cfg0.N) (y : S1x4x64x1024.Idx) : ∃ p ∈ pieces12 m c t, y ∈ p.1.set :=
  View.cover_of_tiledL (s := S1x4x64x1024) _ S1x1x64x128.size (by sl_kernel_rfl) y

def left12 (c : Dev nD) (t : Fin cfg0.N) : Vec F S1x4x64x1024 .bf16 :=
  VO12.read (Elt F) (VO12.writes (Elt F) VO12.junk (pieces12 m c t))

/-- What output 13 is written with at a point. -/
abbrev pieces13 (c : Dev nD) (t : Fin cfg0.N) : List (View.Piece (Elt F) S1x16x16x1024 .bf16) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.1

theorem cover13 (c : Dev nD) (t : Fin cfg0.N) (y : S1x16x16x1024.Idx) : ∃ p ∈ pieces13 m c t, y ∈ p.1.set :=
  View.cover_of_tiledL (s := S1x16x16x1024) _ S1x1x16x128.size (by sl_kernel_rfl) y

def left13 (c : Dev nD) (t : Fin cfg0.N) : Vec F S1x16x16x1024 .bf16 :=
  VO13.read (Elt F) (VO13.writes (Elt F) VO13.junk (pieces13 m c t))

/-- What output 14 is written with at a point. -/
abbrev pieces14 (c : Dev nD) (t : Fin cfg0.N) : List (View.Piece (Elt F) S1x1x1024x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.2.1

theorem cover14 (c : Dev nD) (t : Fin cfg0.N) (y : S1x1x1024x128.Idx) : ∃ p ∈ pieces14 m c t, y ∈ p.1.set :=
  Cert.Pieces.cover_eighths 128 _ (by sl_kernel_rfl) y

def left14 (c : Dev nD) (t : Fin cfg0.N) : Vec F S1x1x1024x128 .f32 :=
  VO14.read (Elt F) (VO14.writes (Elt F) VO14.junk (pieces14 m c t))

/-- What output 15 is written with at a point. -/
abbrev pieces15 (c : Dev nD) (t : Fin cfg0.N) : List (View.Piece (Elt F) S1x1x2048x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.2.2.1

theorem cover15 (c : Dev nD) (t : Fin cfg0.N) (y : S1x1x2048x128.Idx) : ∃ p ∈ pieces15 m c t, y ∈ p.1.set :=
  Cert.Pieces.cover_eighths 256 _ (by sl_kernel_rfl) y

def left15 (c : Dev nD) (t : Fin cfg0.N) : Vec F S1x1x2048x128 .f32 :=
  VO15.read (Elt F) (VO15.writes (Elt F) VO15.junk (pieces15 m c t))

/-- What output 16 is written with at a point. -/
abbrev pieces16 (c : Dev nD) (t : Fin cfg0.N) : List (View.Piece (Elt F) S1x1x2048x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.2.2.2.1

theorem cover16 (c : Dev nD) (t : Fin cfg0.N) (y : S1x1x2048x128.Idx) : ∃ p ∈ pieces16 m c t, y ∈ p.1.set :=
  Cert.Pieces.cover_eighths 256 _ (by sl_kernel_rfl) y

def left16 (c : Dev nD) (t : Fin cfg0.N) : Vec F S1x1x2048x128 .f32 :=
  VO16.read (Elt F) (VO16.writes (Elt F) VO16.junk (pieces16 m c t))

/-- What output 17 is written with at a point. -/
abbrev pieces17 (c : Dev nD) (t : Fin cfg0.N) : List (View.Piece (Elt F) S1x1x1024x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.2.2.2.2.1

theorem cover17 (c : Dev nD) (t : Fin cfg0.N) (y : S1x1x1024x128.Idx) : ∃ p ∈ pieces17 m c t, y ∈ p.1.set :=
  Cert.Pieces.cover_eighths 128 _ (by sl_kernel_rfl) y

def left17 (c : Dev nD) (t : Fin cfg0.N) : Vec F S1x1x1024x128 .f32 :=
  VO17.read (Elt F) (VO17.writes (Elt F) VO17.junk (pieces17 m c t))

/-- What output 18 is written with at a point. -/
abbrev pieces18 (c : Dev nD) (t : Fin cfg0.N) : List (View.Piece (Elt F) S1x1x2048x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.2.2.2.2.2.1

theorem cover18 (c : Dev nD) (t : Fin cfg0.N) (y : S1x1x2048x128.Idx) : ∃ p ∈ pieces18 m c t, y ∈ p.1.set :=
  Cert.Pieces.cover_eighths 256 _ (by sl_kernel_rfl) y

def left18 (c : Dev nD) (t : Fin cfg0.N) : Vec F S1x1x2048x128 .f32 :=
  VO18.read (Elt F) (VO18.writes (Elt F) VO18.junk (pieces18 m c t))

/-- What output 19 is written with at a point. -/
abbrev pieces19 (c : Dev nD) (t : Fin cfg0.N) : List (View.Piece (Elt F) S1x1x2048x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.2.2.2.2.2.2.1

theorem cover19 (c : Dev nD) (t : Fin cfg0.N) (y : S1x1x2048x128.Idx) : ∃ p ∈ pieces19 m c t, y ∈ p.1.set :=
  Cert.Pieces.cover_eighths 256 _ (by sl_kernel_rfl) y

def left19 (c : Dev nD) (t : Fin cfg0.N) : Vec F S1x1x2048x128 .f32 :=
  VO19.read (Elt F) (VO19.writes (Elt F) VO19.junk (pieces19 m c t))

/-- The pipeline's proof data: the arrays as the region finds them, each input's buffer at its block, each output's at
    what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => left8 m c t
    | ⟨9, _⟩ => left9 m c t
    | ⟨10, _⟩ => left10 m c t
    | ⟨11, _⟩ => left11 m c t
    | ⟨12, _⟩ => left12 m c t
    | ⟨13, _⟩ => left13 m c t
    | ⟨14, _⟩ => left14 m c t
    | ⟨15, _⟩ => left15 m c t
    | ⟨16, _⟩ => left16 m c t
    | ⟨17, _⟩ => left17 m c t
    | ⟨18, _⟩ => left18 m c t
    | ⟨19, _⟩ => left19 m c t
    | ⟨n + 20, h⟩ => absurd h (Nat.not_lt.mpr (Nat.le_add_left _ n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = left8 m c t := by dsimp only [dats]
theorem after9 (c : Dev nD) (t : Fin cfg0.N) : (dats m 0 c).after 9 t = left9 m c t := by dsimp only [dats]
theorem after10 (c : Dev nD) (t : Fin cfg0.N) : (dats m 0 c).after 10 t = left10 m c t := by dsimp only [dats]
theorem after11 (c : Dev nD) (t : Fin cfg0.N) : (dats m 0 c).after 11 t = left11 m c t := by dsimp only [dats]
theorem after12 (c : Dev nD) (t : Fin cfg0.N) : (dats m 0 c).after 12 t = left12 m c t := by dsimp only [dats]
theorem after13 (c : Dev nD) (t : Fin cfg0.N) : (dats m 0 c).after 13 t = left13 m c t := by dsimp only [dats]
theorem after14 (c : Dev nD) (t : Fin cfg0.N) : (dats m 0 c).after 14 t = left14 m c t := by dsimp only [dats]
theorem after15 (c : Dev nD) (t : Fin cfg0.N) : (dats m 0 c).after 15 t = left15 m c t := by dsimp only [dats]
theorem after16 (c : Dev nD) (t : Fin cfg0.N) : (dats m 0 c).after 16 t = left16 m c t := by dsimp only [dats]
theorem after17 (c : Dev nD) (t : Fin cfg0.N) : (dats m 0 c).after 17 t = left17 m c t := by dsimp only [dats]
theorem after18 (c : Dev nD) (t : Fin cfg0.N) : (dats m 0 c).after 18 t = left18 m c t := by dsimp only [dats]
theorem after19 (c : Dev nD) (t : Fin cfg0.N) : (dats m 0 c).after 19 t = left19 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body's obligation -/

/-- What the body finds at a point, -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d)))

/-- and what it leaves. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t)
    ∗ owns (c : Thread nD τ) (ms19 t) fullShare ((dats m 0 c).after 19 t))

set_option maxHeartbeats 4000000 in
/-- The body at any point takes the one to the other. -/
theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  rw [show (dats m 0 c).Φ t.castSucc = Pipeline.ΦA spec0 c from rfl, inv_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) slab (Memref.isWhole_whole _)
    (iblk m c 0 t) (iblk m c 1 t) (iblk m c 2 t) (iblk m c 3 t) (iblk m c 4 t) (iblk m c 5 t) (iblk m c 6 t) (iblk m c 7 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 m c t)
  isplitl [H9]
  · unfold owns; iexists _; isplitr
    swap; · iexact H9
    ipureintro; exact View.read_writes_of_cover _ _ _ _ _ (cover9 m c t)
  isplitl [H10]
  · unfold owns; iexists _; isplitr
    swap; · iexact H10
    ipureintro; exact View.read_writes_of_cover _ _ _ _ _ (cover10 m c t)
  isplitl [H11]
  · unfold owns; iexists _; isplitr
    swap; · iexact H11
    ipureintro; exact View.read_writes_of_cover _ _ _ _ _ (cover11 m c t)
  isplitl [H12]
  · unfold owns; iexists _; isplitr
    swap; · iexact H12
    ipureintro; exact View.read_writes_of_cover _ _ _ _ _ (cover12 m c t)
  isplitl [H13]
  · unfold owns; iexists _; isplitr
    swap; · iexact H13
    ipureintro; exact View.read_writes_of_cover _ _ _ _ _ (cover13 m c t)
  isplitl [H14]
  · unfold owns; iexists _; isplitr
    swap; · iexact H14
    ipureintro; exact View.read_writes_of_cover _ _ _ _ _ (cover14 m c t)
  isplitl [H15]
  · unfold owns; iexists _; isplitr
    swap; · iexact H15
    ipureintro; exact View.read_writes_of_cover _ _ _ _ _ (cover15 m c t)
  isplitl [H16]
  · unfold owns; iexists _; isplitr
    swap; · iexact H16
    ipureintro; exact View.read_writes_of_cover _ _ _ _ _ (cover16 m c t)
  isplitl [H17]
  · unfold owns; iexists _; isplitr
    swap; · iexact H17
    ipureintro; exact View.read_writes_of_cover _ _ _ _ _ (cover17 m c t)
  isplitl [H18]
  · unfold owns; iexists _; isplitr
    swap; · iexact H18
    ipureintro; exact View.read_writes_of_cover _ _ _ _ _ (cover18 m c t)
  unfold owns; iexists _; isplitr
  swap; · iexact H19
  ipureintro; exact View.read_writes_of_cover _ _ _ _ _ (cover19 m c t)

theorem row (t : Fin cfg0.N) : defs₀ (F := F) .tc cfg0.body (cfg0.bodyArgs t (cfg0.slots t)) = bodyAt0 t := by
  unfold defs₀; rw [Defs.onTc_tc]

/-- The library's obligation, at every point. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-! ## The run and the frame -/

set_option backward.isDefEq.respectTransparency.types false in
/-- Every execution ends, with the arrays as the proof data say and every counter at zero. -/
theorem run_counters : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_counters m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_counters m ρ))

end Cert.ProjB

end
-- ==== Proof.ProjBSlab.lean ====
/- The second projection's staging slabs and result blocks, as functions of the index: what each stored piece holds. -/
module

public import proofs.«01_k».proof.Proof.ProjBFrame
public import proofs.«01_k».proof.Proof.ProjA

@[expose] public section

set_option maxRecDepth 16384

noncomputable section

namespace Cert.ProjB

open Idealize.ShloMosaic Idealize.ShloMosaic.TcCoe Idealize.SL.Sem
open Cert.Kernel6Ideal Cert.Kernel6Ideal.Gen Cert.Pieces Cert.ProjRows Cert.FfnRows
open Cert.ProjA (rawB half slice_at cast_head cast_move cast_leave4 cast_leave16 blk1 leave1 blk4 blk16)

/-- A key head of a tile of rows: a slice of the product, divided by its root mean square, times the gain. -/
abbrev keyVec (x : FVec Ideal S256x128 .f32) (q : Vec Ideal S1x128 .f32) : FVec Ideal S256x128 .f32 :=
  mulf (mulf x (broadcastTo S256x128 (rsqrt (addf (divf (shapeCast S256x1 (multiReduction .add [1] S256 (mulf x x) 0x00000000#32 reduces_S256x128_S256 (.inl rfl) rfl) shapeCasts_S256_S256x1) (broadcast S256x1 (FloatOps.ofBits .f32 0x43000000#32))) (broadcast S256x1 (FloatOps.ofBits .f32 0x358637BD#32)))) broadcasts_S256x1_S256x128))
    (broadcastTo S256x128 q broadcasts_S1x128_S256x128)

theorem keyVec_at (x : FVec Ideal S256x128 .f32) (q : Vec Ideal S1x128 .f32) (i : Fin 256) (l : Fin 128) :
    keyVec x q (ix2 i l) = rms headLen eps (fun e : Fin 128 => x (ix2 i e)) (fun e => q (ix2 0 e)) l := by
  pointwise [rms]

/-- The key tile of a block of rows and a weight tile. -/
abbrev keyB (X : Vec Ideal S256x2048 .bf16) (W : Vec Ideal S2048x1024 .bf16) (q : Vec Ideal S1x128 .f32) : ℕ → ℕ → ℕ → EReal :=
  normed (fun i k => X (ix2 i k)) (fun k l => W (ix2 k l)) (fun e => q (ix2 0 e))

/-- A key head at an entry. -/
theorem key_at (X : Vec Ideal S256x2048 .bf16) (W : Vec Ideal S2048x1024 .bf16) (Q : Vec Ideal S1x128 .f32)
    (o c inb1 sl) (h : ℕ) (hh : h < 8) (ho : c + o = h * 128) (i : Fin 256) (l : Fin 128) :
    keyVec (extractStridedSlice S256x128 ![0, o]
      (half X (View.ld W (Rect.unit (s := S2048x1024) ![0, c] S2048x512.size inb1))) sl) Q (ix2 i l)
      = keyB X W Q i.val h l.val := by
  rw [keyVec_at]
  simp only [slice_at X W o c inb1 sl h hh ho]
  have hl := l.isLt
  show _ = rms headLen eps _ _ (⟨l.val % 128, by omega⟩ : Fin 128)
  rw [show (⟨l.val % 128, by omega⟩ : Fin 128) = l from Fin.ext (Nat.mod_eq_of_lt hl)]

/-! ## The staging slabs -/

/-- What the slabs hold, the keys' at 0 and the values' at 1: the heads of one group, the heads of the other, and the
    latter sorted by residue modulo four. -/
def slabG (A B : ℕ → ℕ → ℕ → ℕ → EReal) (y : S2x3x8x256x128.Idx) : Elt Ideal .f32 :=
  if (y 1).val = 0 then A (y 0).val (y 3).val (y 2).val (y 4).val
  else if (y 1).val = 1 then B (y 0).val (y 3).val (y 2).val (y 4).val
  else B (y 0).val ((y 3).val % 64 * 4 + (y 3).val / 64) (y 2).val (y 4).val

section
variable {A B : ℕ → ℕ → ℕ → ℕ → EReal} {y : S2x3x8x256x128.Idx} {s i j h l : ℕ}

theorem slabG_one (y0 : (y 0).val = s) (y1 : (y 1).val = 0) (y2 : (y 2).val = h) (y3 : (y 3).val = i) (y4 : (y 4).val = l) :
    slabG A B y = A s i h l := by
  unfold slabG; rw [if_pos y1, y0, y2, y3, y4]

theorem slabG_two (y0 : (y 0).val = s) (y1 : (y 1).val = 1) (y2 : (y 2).val = h) (y3 : (y 3).val = i) (y4 : (y 4).val = l) :
    slabG A B y = B s i h l := by
  unfold slabG; rw [if_neg (by omega), if_pos y1, y0, y2, y3, y4]

theorem slabG_three (y0 : (y 0).val = s) (y1 : (y 1).val = 2) (y2 : (y 2).val = h) (y3 : (y 3).val = j) (y4 : (y 4).val = l)
    (hi : j % 64 * 4 + j / 64 = i) : slabG A B y = B s i h l := by
  unfold slabG; rw [if_neg (by omega), if_neg (by omega), y0, y2, y3, y4, hi]

end

variable {A B : ℕ → ℕ → ℕ → ℕ → EReal} {L : List (View.Piece (Elt Ideal) S2x3x8x256x128 .f32)}

/-- An index of one head is its row and its lane. -/
theorem unit_rows (x : S1x1x256x128.Idx) : x = ix4 0 0 (x 2) (x 3) := by
  idx_vars x
  blk_ext []

/-- A head of the first group is stored. -/
theorem store1 (H : Good (slabG A B) L) (s h : ℕ) (h1 h2 h3 h4 h5 hR) (w : FVec Ideal S1x1x256x128 .f32)
    (hw : ∀ (i : Fin 256) (l : Fin 128), w (ix4 0 0 i l) = A s i.val h l.val) :
    Good (slabG A B) (⟨(Rect.unit (s := S2x3x8x256x128) ![s, 0, 0, 0, 0] S1x1x8x256x128.size h1).within
      ((Rect.unit (s := S1x8x256x128) ![0, h, 0, 0] S1x1x256x128.size h2).consLift S1x1x8x256x128.size h4 h5) h3,
      Rect.payAlong (r := Rect.unit (s := S1x8x256x128) ![0, h, 0, 0] S1x1x256x128.size h2) hR w⟩ :: L) := by
  refine H.cons fun x => ?_
  have x0 : (x 0).val < 1 := (x 0).isLt
  have x1 : (x 1).val < 1 := (x 1).isLt
  have x2 : (x 2).val < 1 := (x 2).isLt
  refine (Rect.payAlong_consLift (Rect.unit (s := S1x8x256x128) ![0, h, 0, 0] S1x1x256x128.size h2) S1x1x8x256x128.size h4 h5 _ hR x (fun i => x i.succ) fun _ => rfl).trans ?_
  refine (congrArg w (unit_rows _)).trans ((hw (x 3) (x 4)).trans ?_)
  refine (slabG_one (show s + 0 + 1 * (x 0).val = s by omega) (show 0 + 0 + 1 * (x 1).val = 0 by omega)
    (show 0 + h + 1 * (x 2).val = h by omega) (show 0 + 0 + 1 * (x 3).val = (x 3).val by omega)
    (show 0 + 0 + 1 * (x 4).val = (x 4).val by omega)).symm

/-- A head of the second group is stored. -/
theorem store2 (H : Good (slabG A B) L) (s h : ℕ) (h1 h2 h3 h4 h5 hR) (w : FVec Ideal S1x1x256x128 .f32)
    (hw : ∀ (i : Fin 256) (l : Fin 128), w (ix4 0 0 i l) = B s i.val h l.val) :
    Good (slabG A B) (⟨(Rect.unit (s := S2x3x8x256x128) ![s, 1, 0, 0, 0] S1x2x8x256x128.size h1).within
      ((Rect.unit (s := S2x8x256x128) ![0, h, 0, 0] S1x1x256x128.size h2).consLift S1x2x8x256x128.size h4 h5) h3,
      Rect.payAlong (r := Rect.unit (s := S2x8x256x128) ![0, h, 0, 0] S1x1x256x128.size h2) hR w⟩ :: L) := by
  refine H.cons fun x => ?_
  have x0 : (x 0).val < 1 := (x 0).isLt
  have x1 : (x 1).val < 1 := (x 1).isLt
  have x2 : (x 2).val < 1 := (x 2).isLt
  refine (Rect.payAlong_consLift (Rect.unit (s := S2x8x256x128) ![0, h, 0, 0] S1x1x256x128.size h2) S1x2x8x256x128.size h4 h5 _ hR x (fun i => x i.succ) fun _ => rfl).trans ?_
  refine (congrArg w (unit_rows _)).trans ((hw (x 3) (x 4)).trans ?_)
  refine (slabG_two (show s + 0 + 1 * (x 0).val = s by omega) (show 1 + 0 + 1 * (x 1).val = 1 by omega)
    (show 0 + h + 1 * (x 2).val = h by omega) (show 0 + 0 + 1 * (x 3).val = (x 3).val by omega)
    (show 0 + 0 + 1 * (x 4).val = (x 4).val by omega)).symm

/-- Every fourth row of a head is moved to the sorted slab. -/
theorem move (H : Good (slabG A B) L) (v : View sig .tc .vmem S2x3x8x256x128 .f32) (s h r a : ℕ) (hr : r < 4) (ha : a = 64 * r)
    (h1 h2 h3 h4 h5 h6 h7 h8 h9 h10 hR hL c1 c2)
    (hc : covered L ((Rect.unit (s := S2x3x8x256x128) ![s, 1, 0, 0, 0] S1x2x8x256x128.size h4).withinL
      (LoadRect.consLift (n := 4) (d := S2x8x256x128.size) ⟨![0, h, r, 0], S1x1x64x128.size, ![1, 1, 4, 1], h5⟩ S1x2x8x256x128.size h9 h10) h6) = true) :
    Good (slabG A B) (⟨(Rect.unit (s := S2x3x8x256x128) ![s, 1, 0, 0, 0] S1x2x8x256x128.size h1).within
      ((Rect.unit (s := S2x8x256x128) ![1, h, a, 0] S1x1x64x128.size h2).consLift S1x2x8x256x128.size h7 h8) h3,
      Rect.payAlong (r := Rect.unit (s := S2x8x256x128) ![1, h, a, 0] S1x1x64x128.size h2) hR (shapeCast S1x1x64x128 (shapeCast S64x128 (LoadRect.valAlong (lr := (⟨![0, h, r, 0], S1x1x64x128.size, ![1, 1, 4, 1], h5⟩ : LoadRect S2x8x256x128)) hL (v.readCov L
        ((Rect.unit (s := S2x3x8x256x128) ![s, 1, 0, 0, 0] S1x2x8x256x128.size h4).withinL
      (LoadRect.consLift (n := 4) (d := S2x8x256x128.size) ⟨![0, h, r, 0], S1x1x64x128.size, ![1, 1, 4, 1], h5⟩ S1x2x8x256x128.size h9 h10) h6)) : Vec Ideal S1x1x64x128 .f32) c1) c2)⟩ :: L) := by
  refine H.cons fun x => ?_
  have x0 : (x 0).val < 1 := (x 0).isLt
  have x1 : (x 1).val < 1 := (x 1).isLt
  have x2 : (x 2).val < 1 := (x 2).isLt
  have x3 : (x 3).val < 64 := (x 3).isLt
  refine (Rect.payAlong_consLift (Rect.unit (s := S2x8x256x128) ![1, h, a, 0] S1x1x64x128.size h2) S1x2x8x256x128.size h7 h8 _ hR x (fun i => x i.succ) fun _ => rfl).trans ?_
  refine (cast_move _ c1 c2 _).trans ((H.read v hc _).trans ?_)
  refine (congrArg (fun j => slabG A B (LoadRect.idx _ j))
    (Shape.reshapeEquiv_cons_one (d := S1x1x64x128.size) hL (ix4 0 0 (x 3) (x 4)))).trans ?_
  refine (slabG_two (s := s) (i := r + 4 * (x 3).val) (h := h) (l := (x 4).val) (show s + 0 + 1 * 0 = s by omega) rfl
    (show 0 + h + 1 * 0 = h by omega)
    (show 0 + r + 4 * (x 3).val = r + 4 * (x 3).val by omega) (show 0 + 0 + 1 * (x 4).val = (x 4).val by omega)).trans ?_
  refine (slabG_three (show s + 0 + 1 * (x 0).val = s by omega) (show 1 + 1 + 1 * (x 1).val = 2 by omega)
    (show 0 + h + 1 * (x 2).val = h by omega)
    (show 0 + a + 1 * (x 3).val = 64 * r + (x 3).val by omega) (show 0 + 0 + 1 * (x 4).val = (x 4).val by omega)
    (by omega)).symm

/-- The rows of one residue modulo four, one head, leave for the block. -/
theorem leave4 {Lo : List (View.Piece (Elt Ideal) S1x4x64x1024 .bf16)} (s : ℕ) (H : Good (slabG A B) L) (Ho : Good (blk4 (A s)) Lo)
    (v : View sig .tc .vmem S2x3x8x256x128 .f32) (h r a : ℕ) (ha : a = 128 * h) (h1 h4 h5 h6 h9 h10 hL c1 c2 c3)
    (hc : covered L ((Rect.unit (s := S2x3x8x256x128) ![s, 0, 0, 0, 0] S1x1x8x256x128.size h4).withinL
      (LoadRect.consLift (n := 4) (d := S1x8x256x128.size) ⟨![0, h, r, 0], S1x1x64x128.size, ![1, 1, 4, 1], h5⟩ S1x1x8x256x128.size h9 h10) h6) = true) :
    Good (blk4 (A s)) (⟨Rect.unit (s := S1x4x64x1024) ![0, r, 0, a] S1x1x64x128.size h1,
      shapeCast S1x1x64x128 (truncf (F := Ideal) (φ := .f32) .bf16 (shapeCast S64x128 (LoadRect.valAlong (lr := (⟨![0, h, r, 0], S1x1x64x128.size, ![1, 1, 4, 1], h5⟩ : LoadRect S1x8x256x128)) hL (v.readCov L
        ((Rect.unit (s := S2x3x8x256x128) ![s, 0, 0, 0, 0] S1x1x8x256x128.size h4).withinL
      (LoadRect.consLift (n := 4) (d := S1x8x256x128.size) ⟨![0, h, r, 0], S1x1x64x128.size, ![1, 1, 4, 1], h5⟩ S1x1x8x256x128.size h9 h10) h6)) : Vec Ideal S1x1x64x128 .f32) c1) c2) c3⟩ :: Lo) := by
  refine Ho.cons fun x => ?_
  have x1 : (x 1).val < 1 := (x 1).isLt
  have x3 : (x 3).val < 128 := (x 3).isLt
  refine (cast_leave4 _ c1 c2 c3 x).trans ((H.read v hc _).trans ?_)
  refine (congrArg (fun j => slabG A B (LoadRect.idx _ j))
    (Shape.reshapeEquiv_cons_one (d := S1x1x64x128.size) hL (ix4 0 0 (x 2) (x 3)))).trans ?_
  refine (slabG_one (s := s) (i := r + 4 * (x 2).val) (h := h) (l := (x 3).val) (show s + 0 + 1 * 0 = s by omega) rfl
    (show 0 + h + 1 * 0 = h by omega)
    (show 0 + r + 4 * (x 2).val = r + 4 * (x 2).val by omega) (show 0 + 0 + 1 * (x 3).val = (x 3).val by omega)).trans ?_
  show _ = A s (4 * (0 + 1 * (x 2).val) + (r + 1 * (x 1).val)) ((a + 1 * (x 3).val) / 128) ((a + 1 * (x 3).val) % 128)
  congr 1 <;> first | omega | skip

/-- The rows of one residue modulo sixteen, one head, leave for the block. -/
theorem leave16 {Lo : List (View.Piece (Elt Ideal) S1x16x16x1024 .bf16)} (s : ℕ) (H : Good (slabG A B) L) (Ho : Good (blk16 (B s)) Lo)
    (v : View sig .tc .vmem S2x3x8x256x128 .f32) (h r k a : ℕ) (ha : a = 128 * h) (hr : r < 16)
    (hk : k = 64 * (r % 4) + r / 4) (h1 h4 h5 h6 h9 h10 hL c1 c2 c3)
    (hc : covered L ((Rect.unit (s := S2x3x8x256x128) ![s, 1, 0, 0, 0] S1x2x8x256x128.size h4).withinL
      (LoadRect.consLift (n := 4) (d := S2x8x256x128.size) ⟨![1, h, k, 0], S1x1x16x128.size, ![1, 1, 4, 1], h5⟩ S1x2x8x256x128.size h9 h10) h6) = true) :
    Good (blk16 (B s)) (⟨Rect.unit (s := S1x16x16x1024) ![0, r, 0, a] S1x1x16x128.size h1,
      shapeCast S1x1x16x128 (truncf (F := Ideal) (φ := .f32) .bf16 (shapeCast S16x128 (LoadRect.valAlong (lr := (⟨![1, h, k, 0], S1x1x16x128.size, ![1, 1, 4, 1], h5⟩ : LoadRect S2x8x256x128)) hL (v.readCov L
        ((Rect.unit (s := S2x3x8x256x128) ![s, 1, 0, 0, 0] S1x2x8x256x128.size h4).withinL
      (LoadRect.consLift (n := 4) (d := S2x8x256x128.size) ⟨![1, h, k, 0], S1x1x16x128.size, ![1, 1, 4, 1], h5⟩ S1x2x8x256x128.size h9 h10) h6)) : Vec Ideal S1x1x16x128 .f32) c1) c2) c3⟩ :: Lo) := by
  refine Ho.cons fun x => ?_
  have x1 : (x 1).val < 1 := (x 1).isLt
  have x2 : (x 2).val < 16 := (x 2).isLt
  have x3 : (x 3).val < 128 := (x 3).isLt
  refine (cast_leave16 _ c1 c2 c3 x).trans ((H.read v hc _).trans ?_)
  refine (congrArg (fun j => slabG A B (LoadRect.idx _ j))
    (Shape.reshapeEquiv_cons_one (d := S1x1x16x128.size) hL (ix4 0 0 (x 2) (x 3)))).trans ?_
  refine (slabG_three (s := s) (i := r + 16 * (x 2).val) (h := h) (l := (x 3).val) (show s + 0 + 1 * 0 = s by omega) rfl
    (show 0 + h + 1 * 0 = h by omega)
    (show 0 + k + 4 * (x 2).val = k + 4 * (x 2).val by omega) (show 0 + 0 + 1 * (x 3).val = (x 3).val by omega)
    (by omega)).trans ?_
  show _ = B s (16 * (0 + 1 * (x 2).val) + (r + 1 * (x 1).val)) ((a + 1 * (x 3).val) / 128) ((a + 1 * (x 3).val) % 128)
  congr 1 <;> first | omega | skip

/-! ## The cache blocks -/

/-- What a cache block of a whole row tile holds: a row's heads one below another. -/
def rowsF (A : ℕ → ℕ → ℕ → EReal) (y : S1x1x2048x128.Idx) : Elt Ideal .f32 := A ((y 2).val / 8) ((y 2).val % 8) (y 3).val

/-- What a cache block of the tile's second half holds. -/
def rowsH (A : ℕ → ℕ → ℕ → EReal) (y : S1x1x1024x128.Idx) : Elt Ideal .f32 :=
  A (128 + (y 2).val / 8) ((y 2).val % 8) (y 3).val

theorem keepF {A : ℕ → ℕ → ℕ → EReal} {Lo : List (View.Piece (Elt Ideal) S1x1x2048x128 .f32)} (Ho : Good (rowsF A) Lo)
    (h : ℕ) (hh : h < 8) (h1 h2 c) (w : FVec Ideal S256x128 .f32)
    (hw : ∀ (i : Fin 256) (l : Fin 128), w (ix2 i l) = A i.val h l.val) :
    Good (rowsF A) (⟨⟨⟨![0, 0, h, 0], S1x1x256x128.size, ![1, 1, 8, 1], h1⟩, h2⟩, shapeCast S1x1x256x128 w c⟩ :: Lo) := by
  refine Ho.cons fun x => ?_
  refine (cast_head w c x).trans ((hw (x 2) (x 3)).trans ?_)
  show _ = A ((h + 8 * (x 2).val) / 8) ((h + 8 * (x 2).val) % 8) (0 + 1 * (x 3).val)
  congr 1 <;> first | omega | skip

theorem cast_half (w : FVec Ideal S256x128 .f32) (sl c) (x : S1x1x128x128.Idx) :
    shapeCast S1x1x128x128 (extractStridedSlice S128x128 ![128, 0] w sl) c x
      = w (ix2 ⟨128 + (x 2).val, by have := (x 2).isLt; change _ < 128 at this; omega⟩ (x 3)) := by
  idx_vars x
  pointwise
  blk_ext []

theorem keepH {A : ℕ → ℕ → ℕ → EReal} {Lo : List (View.Piece (Elt Ideal) S1x1x1024x128 .f32)} (Ho : Good (rowsH A) Lo)
    (h : ℕ) (hh : h < 8) (h1 h2 sl c) (w : FVec Ideal S256x128 .f32)
    (hw : ∀ (i : Fin 256) (l : Fin 128), w (ix2 i l) = A i.val h l.val) :
    Good (rowsH A) (⟨⟨⟨![0, 0, h, 0], S1x1x128x128.size, ![1, 1, 8, 1], h1⟩, h2⟩,
      shapeCast S1x1x128x128 (extractStridedSlice S128x128 ![128, 0] w sl) c⟩ :: Lo) := by
  refine Ho.cons fun x => ?_
  refine (cast_half w sl c x).trans ((hw _ (x 3)).trans ?_)
  show A (128 + (x 2).val) h (x 3).val = A (128 + (h + 8 * (x 2).val) / 8) ((h + 8 * (x 2).val) % 8) (0 + 1 * (x 3).val)
  congr 1 <;> first | omega | skip

end Cert.ProjB

end
-- ==== Proof.ProjB.lean ====
/- The second projection: what each of its twelve result blocks holds after a grid point. -/
module

public import proofs.«01_k».proof.Proof.ProjBSlab

@[expose] public section

set_option maxRecDepth 16384

noncomputable section

namespace Cert.ProjB

open Idealize.ShloMosaic Idealize.ShloMosaic.TcCoe Idealize.SL.Sem
open Cert.Kernel6Ideal Cert.Kernel6Ideal.Gen Cert.Pieces Cert.ProjRows Cert.FfnRows
open Cert.ProjA (rawB slice_at cast_head blk1 leave1 blk4 blk16)

variable (m : (ℓ : Loc nD τ sig) → Buf (Elt Ideal) ℓ)

/-- The keys and the values of each group, at a point. -/
abbrev K0 (c : Dev nD) (t : Fin cfg0.N) := keyB (iblk m c 0 t) (iblk m c 1 t) (iblk m c 7 t)
abbrev K1 (c : Dev nD) (t : Fin cfg0.N) := keyB (iblk m c 0 t) (iblk m c 2 t) (iblk m c 7 t)
abbrev K2 (c : Dev nD) (t : Fin cfg0.N) := keyB (iblk m c 0 t) (iblk m c 3 t) (iblk m c 7 t)
abbrev V0 (c : Dev nD) (t : Fin cfg0.N) := rawB (iblk m c 0 t) (iblk m c 4 t)
abbrev V1 (c : Dev nD) (t : Fin cfg0.N) := rawB (iblk m c 0 t) (iblk m c 5 t)
abbrev V2 (c : Dev nD) (t : Fin cfg0.N) := rawB (iblk m c 0 t) (iblk m c 6 t)

/-- A pair of tiles, the keys' at 0 and the values' at 1. -/
def side (k v : ℕ → ℕ → ℕ → EReal) : ℕ → ℕ → ℕ → ℕ → EReal
  | 0 => k
  | _ => v

/-- What the slabs hold at a point. -/
abbrev slabs (c : Dev nD) (t : Fin cfg0.N) :=
  slabG (side (K1 m c t) (V1 m c t)) (side (K2 m c t) (V2 m c t))

theorem out8 (c : Dev nD) (t : Fin cfg0.N) (y) : left8 m c t y = blk1 (K0 m c t) y := by
  unfold left8 pieces8
  frame_out
  refine Good.canon ?_ y ?_
  · iterate 8
      refine leave1 ?_ _ ?_ _ _ _ _ ?_
      rotate_left
      · rfl
      · intro i l
        open_payloads
        refine key_at _ _ _ _ _ _ _ _ ?_ ?_ i l
        · decide
        · rfl
    exact Good.nil _
  · exact View.cover_of_tiledL (s := S1x1x256x1024) _ S1x1x256x128.size (by sl_kernel_rfl) y

theorem out11 (c : Dev nD) (t : Fin cfg0.N) (y) : left11 m c t y = blk1 (V0 m c t) y := by
  unfold left11 pieces11
  frame_out
  refine Good.canon ?_ y ?_
  · iterate 8
      refine leave1 ?_ _ ?_ _ _ _ _ ?_
      rotate_left
      · rfl
      · intro i l
        open_payloads
        refine slice_at _ _ _ _ _ _ _ ?_ ?_ i l
        · decide
        · rfl
    exact Good.nil _
  · exact View.cover_of_tiledL (s := S1x1x256x1024) _ S1x1x256x128.size (by sl_kernel_rfl) y

theorem out14 (c : Dev nD) (t : Fin cfg0.N) (y) : left14 m c t y = rowsH (K0 m c t) y := by
  unfold left14 pieces14
  frame_out
  refine Good.canon ?_ y ?_
  · iterate 8
      refine keepH ?_ _ ?_ _ _ slices_S256x128_o128_0_S128x128 _ _ ?_
      rotate_left
      · decide
      · intro i l
        open_payloads
        refine key_at _ _ _ _ _ _ _ _ ?_ ?_ i l
        · decide
        · rfl
    exact Good.nil _
  · exact cover_eighths 128 _ (by sl_kernel_rfl) y

theorem out17 (c : Dev nD) (t : Fin cfg0.N) (y) : left17 m c t y = rowsH (V0 m c t) y := by
  unfold left17 pieces17
  frame_out
  refine Good.canon ?_ y ?_
  · iterate 8
      refine keepH ?_ _ ?_ _ _ slices_S256x128_o128_0_S128x128 _ _ ?_
      rotate_left
      · decide
      · intro i l
        open_payloads
        refine slice_at _ _ _ _ _ _ _ ?_ ?_ i l
        · decide
        · rfl
    exact Good.nil _
  · exact cover_eighths 128 _ (by sl_kernel_rfl) y

theorem out15 (c : Dev nD) (t : Fin cfg0.N) (y) : left15 m c t y = rowsF (K1 m c t) y := by
  unfold left15 pieces15
  frame_out
  refine Good.canon ?_ y ?_
  · iterate 8
      refine keepF ?_ _ ?_ _ _ _ _ ?_
      rotate_left
      · decide
      · intro i l
        open_payloads
        refine key_at _ _ _ _ _ _ _ _ ?_ ?_ i l
        · decide
        · rfl
    exact Good.nil _
  · exact cover_eighths 256 _ (by sl_kernel_rfl) y

theorem out16 (c : Dev nD) (t : Fin cfg0.N) (y) : left16 m c t y = rowsF (K2 m c t) y := by
  unfold left16 pieces16
  frame_out
  refine Good.canon ?_ y ?_
  · iterate 8
      refine keepF ?_ _ ?_ _ _ _ _ ?_
      rotate_left
      · decide
      · intro i l
        open_payloads
        refine key_at _ _ _ _ _ _ _ _ ?_ ?_ i l
        · decide
        · rfl
    exact Good.nil _
  · exact cover_eighths 256 _ (by sl_kernel_rfl) y

theorem out18 (c : Dev nD) (t : Fin cfg0.N) (y) : left18 m c t y = rowsF (V1 m c t) y := by
  unfold left18 pieces18
  frame_out
  refine Good.canon ?_ y ?_
  · iterate 8
      refine keepF ?_ _ ?_ _ _ _ _ ?_
      rotate_left
      · decide
      · intro i l
        open_payloads
        refine slice_at _ _ _ _ _ _ _ ?_ ?_ i l
        · decide
        · rfl
    exact Good.nil _
  · exact cover_eighths 256 _ (by sl_kernel_rfl) y

theorem out19 (c : Dev nD) (t : Fin cfg0.N) (y) : left19 m c t y = rowsF (V2 m c t) y := by
  unfold left19 pieces19
  frame_out
  refine Good.canon ?_ y ?_
  · iterate 8
      refine keepF ?_ _ ?_ _ _ _ _ ?_
      rotate_left
      · decide
      · intro i l
        open_payloads
        refine slice_at _ _ _ _ _ _ _ ?_ ?_ i l
        · decide
        · rfl
    exact Good.nil _
  · exact cover_eighths 256 _ (by sl_kernel_rfl) y

set_option maxHeartbeats 8000000 in
theorem out10 (c : Dev nD) (t : Fin cfg0.N) (y) : left10 m c t y = blk16 (K2 m c t) y := by
  unfold left10 pieces10
  frame_out
  refine Good.canon ?_ y ?_
  · apply share (G := slabs m c t)
    · intro H
      iterate 128
        refine leave16 0 H ?_ _ _ _ _ _ ?_ ?_ ?_ _ _ _ _ _ _ _ _ _ _ ?_
        rotate_left
        · rfl
        · decide
        · rfl
        · sl_kernel_rfl
      exact Good.nil _
    · iterate 32
        refine move ?_ _ _ _ _ _ ?_ ?_ _ _ _ _ _ _ _ _ _ _ _ _ _ _ ?_
        rotate_left
        · decide
        · rfl
        · sl_kernel_rfl
      iterate 8
        refine store2 ?_ _ _ _ _ _ _ _ _ _ ?_
        rotate_left
        · intro i l
          open_payloads
          refine (cast_head _ _ _).trans ?_
          refine key_at _ _ _ _ _ _ _ _ ?_ ?_ i l
          · decide
          · rfl
      exact Good.nil _
  · exact View.cover_of_tiledL (s := S1x16x16x1024) _ S1x1x16x128.size (by sl_kernel_rfl) y

set_option maxHeartbeats 8000000 in
theorem out13 (c : Dev nD) (t : Fin cfg0.N) (y) : left13 m c t y = blk16 (V2 m c t) y := by
  unfold left13 pieces13
  frame_out
  refine Good.canon ?_ y ?_
  · apply share (G := slabs m c t)
    · intro H
      iterate 128
        refine leave16 1 H ?_ _ _ _ _ _ ?_ ?_ ?_ _ _ _ _ _ _ _ _ _ _ ?_
        rotate_left
        · rfl
        · decide
        · rfl
        · sl_kernel_rfl
      exact Good.nil _
    · iterate 32
        refine move ?_ _ _ _ _ _ ?_ ?_ _ _ _ _ _ _ _ _ _ _ _ _ _ _ ?_
        rotate_left
        · decide
        · rfl
        · sl_kernel_rfl
      iterate 8
        refine store2 ?_ _ _ _ _ _ _ _ _ _ ?_
        rotate_left
        · intro i l
          open_payloads
          refine (cast_head _ _ _).trans ?_
          refine slice_at _ _ _ _ _ _ _ ?_ ?_ i l
          · decide
          · rfl
      iterate 32
        refine move ?_ _ _ _ _ _ ?_ ?_ _ _ _ _ _ _ _ _ _ _ _ _ _ _ ?_
        rotate_left
        · decide
        · rfl
        · sl_kernel_rfl
      iterate 8
        refine store2 ?_ _ _ _ _ _ _ _ _ _ ?_
        rotate_left
        · intro i l
          open_payloads
          refine (cast_head _ _ _).trans ?_
          refine key_at _ _ _ _ _ _ _ _ ?_ ?_ i l
          · decide
          · rfl
      exact Good.nil _
  · exact View.cover_of_tiledL (s := S1x16x16x1024) _ S1x1x16x128.size (by sl_kernel_rfl) y

set_option maxHeartbeats 8000000 in
theorem out9 (c : Dev nD) (t : Fin cfg0.N) (y) : left9 m c t y = blk4 (K1 m c t) y := by
  unfold left9 pieces9
  frame_out
  refine Good.canon ?_ y ?_
  · apply share (G := slabs m c t)
    · intro H
      iterate 32
        refine leave4 0 H ?_ _ _ _ _ ?_ _ _ _ _ _ _ _ _ _ _ ?_
        rotate_left
        · rfl
        · sl_kernel_rfl
      exact Good.nil _
    · iterate 8
        refine store1 ?_ _ _ _ _ _ _ _ _ _ ?_
        rotate_left
        · intro i l
          open_payloads
          refine (cast_head _ _ _).trans ?_
          refine key_at _ _ _ _ _ _ _ _ ?_ ?_ i l
          · decide
          · rfl
      iterate 32
        refine move ?_ _ _ _ _ _ ?_ ?_ _ _ _ _ _ _ _ _ _ _ _ _ _ _ ?_
        rotate_left
        · decide
        · rfl
        · sl_kernel_rfl
      iterate 8
        refine store2 ?_ _ _ _ _ _ _ _ _ _ ?_
        rotate_left
        · intro i l
          open_payloads
          refine (cast_head _ _ _).trans ?_
          refine slice_at _ _ _ _ _ _ _ ?_ ?_ i l
          · decide
          · rfl
      iterate 32
        refine move ?_ _ _ _ _ _ ?_ ?_ _ _ _ _ _ _ _ _ _ _ _ _ _ _ ?_
        rotate_left
        · decide
        · rfl
        · sl_kernel_rfl
      iterate 8
        refine store2 ?_ _ _ _ _ _ _ _ _ _ ?_
        rotate_left
        · intro i l
          open_payloads
          refine (cast_head _ _ _).trans ?_
          refine key_at _ _ _ _ _ _ _ _ ?_ ?_ i l
          · decide
          · rfl
      exact Good.nil _
  · exact View.cover_of_tiledL (s := S1x4x64x1024) _ S1x1x64x128.size (by sl_kernel_rfl) y

set_option maxHeartbeats 8000000 in
theorem out12 (c : Dev nD) (t : Fin cfg0.N) (y) : left12 m c t y = blk4 (V1 m c t) y := by
  unfold left12 pieces12
  frame_out
  refine Good.canon ?_ y ?_
  · apply share (G := slabs m c t)
    · intro H
      iterate 32
        refine leave4 1 H ?_ _ _ _ _ ?_ _ _ _ _ _ _ _ _ _ _ ?_
        rotate_left
        · rfl
        · sl_kernel_rfl
      exact Good.nil _
    · iterate 8
        refine store1 ?_ _ _ _ _ _ _ _ _ _ ?_
        rotate_left
        · intro i l
          open_payloads
          refine (cast_head _ _ _).trans ?_
          refine slice_at _ _ _ _ _ _ _ ?_ ?_ i l
          · decide
          · rfl
      iterate 8
        refine store1 ?_ _ _ _ _ _ _ _ _ _ ?_
        rotate_left
        · intro i l
          open_payloads
          refine (cast_head _ _ _).trans ?_
          refine key_at _ _ _ _ _ _ _ _ ?_ ?_ i l
          · decide
          · rfl
      iterate 32
        refine move ?_ _ _ _ _ _ ?_ ?_ _ _ _ _ _ _ _ _ _ _ _ _ _ _ ?_
        rotate_left
        · decide
        · rfl
        · sl_kernel_rfl
      iterate 8
        refine store2 ?_ _ _ _ _ _ _ _ _ _ ?_
        rotate_left
        · intro i l
          open_payloads
          refine (cast_head _ _ _).trans ?_
          refine slice_at _ _ _ _ _ _ _ ?_ ?_ i l
          · decide
          · rfl
      iterate 32
        refine move ?_ _ _ _ _ _ ?_ ?_ _ _ _ _ _ _ _ _ _ _ _ _ _ _ ?_
        rotate_left
        · decide
        · rfl
        · sl_kernel_rfl
      iterate 8
        refine store2 ?_ _ _ _ _ _ _ _ _ _ ?_
        rotate_left
        · intro i l
          open_payloads
          refine (cast_head _ _ _).trans ?_
          refine key_at _ _ _ _ _ _ _ _ ?_ ?_ i l
          · decide
          · rfl
      exact Good.nil _
  · exact View.cover_of_tiledL (s := S1x4x64x1024) _ S1x1x64x128.size (by sl_kernel_rfl) y

end Cert.ProjB

end
-- ==== Proof.ProjBRef.lean ====
/- The second projection's reference: its twelve results over the arguments, and each at an index. -/
module

public import proofs.«01_k».proof.Proof.Gen.Reference6Ideal.Run
public import proofs.«01_k».proof.Proof.ProjARef

@[expose] public section

set_option maxRecDepth 16384

noncomputable section

namespace Cert.ProjB

open Idealize.ShloMosaic Idealize.ShloMosaic.TcCoe Idealize.SL.Sem
open Cert.Reference6Ideal Cert.Reference6Ideal.Gen Cert.FfnRows Cert.ProjRows
open Cert.ProjA (proj)

/-- The rows against the whole weight. -/
def PROJ (X0 : FVec Ideal S32768x2048 .bf16) (X1 : FVec Ideal S2048x14336 .bf16) : FVec Ideal S32768x14336 .f32 :=
  Host.dotGeneral dot_S32768x2048_S2048x14336_S32768x14336_1_0_0_1_n_n none (extf .f32 X0 bitsLt_bf16_f32) (extf .f32 X1 bitsLt_bf16_f32)

/-- The key heads before they are scaled, and the value heads. -/
def rawKeys (X0 : FVec Ideal S32768x2048 .bf16) (X1 : FVec Ideal S2048x14336 .bf16) : FVec Ideal S16x2048x3x8x128 .f32 :=
  shapeCast S16x2048x3x8x128 (extractStridedSlice S32768x3072 ![0, 4096] (PROJ X0 X1) slices_S32768x14336_S32768x3072_0_4096) shapeCasts_S32768x3072_S16x2048x3x8x128
def values (X0 : FVec Ideal S32768x2048 .bf16) (X1 : FVec Ideal S2048x14336 .bf16) : FVec Ideal S16x2048x3x8x128 .f32 :=
  shapeCast S16x2048x3x8x128 (extractStridedSlice S32768x3072 ![0, 7168] (PROJ X0 X1) slices_S32768x14336_S32768x3072_0_7168) shapeCasts_S32768x3072_S16x2048x3x8x128

/-- The key heads. -/
def keys (X0 : FVec Ideal S32768x2048 .bf16) (X1 : FVec Ideal S2048x14336 .bf16) (X2 : FVec Ideal S1x128 .f32) : FVec Ideal S16x2048x3x8x128 .f32 :=
  mulf (mulf (rawKeys X0 X1) (broadcastInDim S16x2048x3x8x128 ![0, 1, 2, 3, 4] bcast_S16x2048x3x8x1_S16x2048x3x8x128_0_1_2_3_4 (Host.rsqrt (addf (Host.divf (broadcastInDim S16x2048x3x8x1 ![0, 1, 2, 3] bcast_S16x2048x3x8_S16x2048x3x8x1_0_1_2_3 (Host.reduceAdd (mulf (rawKeys X0 X1) (rawKeys X0 X1)) (constant S_ .f32 0x00000000#32) reducesTo_S16x2048x3x8x128_S16x2048x3x8_d4 h_S_)) (broadcastInDim S16x2048x3x8x1 ![] bcast_S_S16x2048x3x8x1 (constant S_ .f32 0x43000000#32))) (broadcastInDim S16x2048x3x8x1 ![] bcast_S_S16x2048x3x8x1 (constant S_ .f32 0x358637BD#32)))))) (broadcastInDim S16x2048x3x8x128 ![0, 1, 2, 3, 4] bcast_S1x1x1x1x128_S16x2048x3x8x128_0_1_2_3_4 (broadcastInDim S1x1x1x1x128 ![4] bcast_S128_S1x1x1x1x128_4 (shapeCast _ X2 shapeCasts_S1x128_S128)))

/-! ## The results, each over the heads -/

def sorted0 (H : FVec Ideal S16x2048x3x8x128 .f32) : FVec Ideal S16x1x2048x1024 .bf16 :=
  truncf .bf16 (transpose S16x1x2048x1024 [0, 2, 1, 3] (shapeCast _ (shapeCast _ (extractStridedSlice S16x2048x1x8x128 ![0, 0, 0, 0, 0] H slices_S16x2048x3x8x128_S16x2048x1x8x128_0_0_0_0_0) shapeCasts_S16x2048x1x8x128_S16x2048x8x128) shapeCasts_S16x2048x8x128_S16x2048x1x1024) transposes_S16x2048x1x1024_S16x1x2048x1024_0_2_1_3) bitsLt_bf16_f32
def sorted1 (H : FVec Ideal S16x2048x3x8x128 .f32) : FVec Ideal S16x4x512x1024 .bf16 :=
  truncf .bf16 (transpose S16x4x512x1024 [0, 2, 1, 3] (shapeCast _ (shapeCast _ (extractStridedSlice S16x2048x1x8x128 ![0, 0, 1, 0, 0] H slices_S16x2048x3x8x128_S16x2048x1x8x128_0_0_1_0_0) shapeCasts_S16x2048x1x8x128_S16x2048x8x128) shapeCasts_S16x2048x8x128_S16x512x4x1024) transposes_S16x512x4x1024_S16x4x512x1024_0_2_1_3) bitsLt_bf16_f32
def sorted2 (H : FVec Ideal S16x2048x3x8x128 .f32) : FVec Ideal S16x16x128x1024 .bf16 :=
  truncf .bf16 (transpose S16x16x128x1024 [0, 2, 1, 3] (shapeCast _ (shapeCast _ (extractStridedSlice S16x2048x1x8x128 ![0, 0, 2, 0, 0] H slices_S16x2048x3x8x128_S16x2048x1x8x128_0_0_2_0_0) shapeCasts_S16x2048x1x8x128_S16x2048x8x128) shapeCasts_S16x2048x8x128_S16x128x16x1024) transposes_S16x128x16x1024_S16x16x128x1024_0_2_1_3) bitsLt_bf16_f32
def kept0 (H : FVec Ideal S16x2048x3x8x128 .f32) : FVec Ideal S16x1x1024x128 .f32 :=
  shapeCast _ (extractStridedSlice S16x128x8x128 ![0, 1920, 0, 0] (shapeCast _ (extractStridedSlice S16x2048x1x8x128 ![0, 0, 0, 0, 0] H slices_S16x2048x3x8x128_S16x2048x1x8x128_0_0_0_0_0) shapeCasts_S16x2048x1x8x128_S16x2048x8x128) slices_S16x2048x8x128_S16x128x8x128_0_1920_0_0) shapeCasts_S16x128x8x128_S16x1x1024x128
def kept1 (H : FVec Ideal S16x2048x3x8x128 .f32) : FVec Ideal S16x2x2048x128 .f32 :=
  shapeCast _ (extractStridedSlice S16x512x8x128 ![0, 1536, 0, 0] (shapeCast _ (extractStridedSlice S16x2048x1x8x128 ![0, 0, 1, 0, 0] H slices_S16x2048x3x8x128_S16x2048x1x8x128_0_0_1_0_0) shapeCasts_S16x2048x1x8x128_S16x2048x8x128) slices_S16x2048x8x128_S16x512x8x128_0_1536_0_0) shapeCasts_S16x512x8x128_S16x2x2048x128
def kept2 (H : FVec Ideal S16x2048x3x8x128 .f32) : FVec Ideal S16x8x2048x128 .f32 :=
  shapeCast _ (shapeCast _ (extractStridedSlice S16x2048x1x8x128 ![0, 0, 2, 0, 0] H slices_S16x2048x3x8x128_S16x2048x1x8x128_0_0_2_0_0) shapeCasts_S16x2048x1x8x128_S16x2048x8x128) shapeCasts_S16x2048x8x128_S16x8x2048x128

/-! ## The heads at an index -/

theorem proj_at (X0 : FVec Ideal S32768x2048 .bf16) (X1 : FVec Ideal S2048x14336 .bf16) (r : Fin 32768) (l : Fin 14336) : PROJ X0 X1 (ix2 r l) = proj X0 X1 r.val l.val :=
  Cert.ProjA.proj_at X0 X1 r l

/-- A key head at an entry: row `r`, the head whose columns begin at `c`, lane `l`. -/
def key (X0 : FVec Ideal S32768x2048 .bf16) (X1 : FVec Ideal S2048x14336 .bf16) (X2 : FVec Ideal S1x128 .f32) (r c l : ℕ) : EReal :=
  rms headLen eps (fun e : Fin 128 => proj X0 X1 r (c + e.val)) (fun e => X2 (ix2 0 e)) ⟨l % 128, by omega⟩

theorem rawKeys_at (X0 : FVec Ideal S32768x2048 .bf16) (X1 : FVec Ideal S2048x14336 .bf16) (b : Fin 16) (s : Fin 2048) (g : Fin 3) (h : Fin 8) (e : Fin 128) :
    rawKeys X0 X1 (ix5 b s g h e) = proj X0 X1 (b.val * 2048 + s.val) (4096 + g.val * 1024 + h.val * 128 + e.val) := by
  pointwise [rawKeys, proj_at]
  simp only [Nat.add_assoc]

theorem values_at (X0 : FVec Ideal S32768x2048 .bf16) (X1 : FVec Ideal S2048x14336 .bf16) (b : Fin 16) (s : Fin 2048) (g : Fin 3) (h : Fin 8) (e : Fin 128) :
    values X0 X1 (ix5 b s g h e) = proj X0 X1 (b.val * 2048 + s.val) (7168 + g.val * 1024 + h.val * 128 + e.val) := by
  pointwise [values, proj_at]
  simp only [Nat.add_assoc]

theorem keys_at (X0 : FVec Ideal S32768x2048 .bf16) (X1 : FVec Ideal S2048x14336 .bf16) (X2 : FVec Ideal S1x128 .f32) (b : Fin 16) (s : Fin 2048) (g : Fin 3) (h : Fin 8) (e : Fin 128) :
    keys X0 X1 X2 (ix5 b s g h e) = key X0 X1 X2 (b.val * 2048 + s.val) (4096 + g.val * 1024 + h.val * 128) e.val := by
  pointwise [keys, key, rms, rawKeys_at]
  simp only [Nat.mod_eq_of_lt e.isLt]

/-! ## The results at an index -/

theorem sorted0_at (H : FVec Ideal S16x2048x3x8x128 .f32) (b : Fin 16) (r : Fin 1) (j : Fin 2048) (l : Fin 1024) :
    sorted0 H (ix4 b r j l) = H (ix5 b j 0 ⟨l.val / 128, by omega⟩ ⟨l.val % 128, by omega⟩) := by
  pointwise [sorted0]

theorem sorted1_at (H : FVec Ideal S16x2048x3x8x128 .f32) (b : Fin 16) (r : Fin 4) (j : Fin 512) (l : Fin 1024) :
    sorted1 H (ix4 b r j l) = H (ix5 b ⟨j.val * 4 + r.val, by omega⟩ 1 ⟨l.val / 128, by omega⟩ ⟨l.val % 128, by omega⟩) := by
  pointwise [sorted1]

theorem sorted2_at (H : FVec Ideal S16x2048x3x8x128 .f32) (b : Fin 16) (r : Fin 16) (j : Fin 128) (l : Fin 1024) :
    sorted2 H (ix4 b r j l) = H (ix5 b ⟨j.val * 16 + r.val, by omega⟩ 2 ⟨l.val / 128, by omega⟩ ⟨l.val % 128, by omega⟩) := by
  pointwise [sorted2]

theorem kept0_at (H : FVec Ideal S16x2048x3x8x128 .f32) (b : Fin 16) (k : Fin 1) (y : Fin 1024) (l : Fin 128) :
    kept0 H (ix4 b k y l) = H (ix5 b ⟨1920 + y.val / 8, by omega⟩ 0 ⟨y.val % 8, by omega⟩ l) := by
  pointwise [kept0]

theorem kept1_at (H : FVec Ideal S16x2048x3x8x128 .f32) (b : Fin 16) (k : Fin 2) (y : Fin 2048) (l : Fin 128) :
    kept1 H (ix4 b k y l) = H (ix5 b ⟨1536 + (k.val * 256 + y.val / 8), by omega⟩ 1 ⟨y.val % 8, by omega⟩ l) := by
  pointwise [kept1]

theorem kept2_at (H : FVec Ideal S16x2048x3x8x128 .f32) (b : Fin 16) (k : Fin 8) (y : Fin 2048) (l : Fin 128) :
    kept2 H (ix4 b k y l) = H (ix5 b ⟨k.val * 256 + y.val / 8, by omega⟩ 2 ⟨y.val % 8, by omega⟩ l) := by
  pointwise [kept2]

end Cert.ProjB

end
-- ==== Proof.ProjBEnd.lean ====
/- The second projection: its twelve result arrays after the run are the reference's terms of the arguments. -/
module

public import proofs.«01_k».proof.Proof.ProjB
public import proofs.«01_k».proof.Proof.ProjBRef

@[expose] public section

set_option maxRecDepth 16384

noncomputable section

namespace Cert.ProjB

open Idealize.ShloMosaic Idealize.ShloMosaic.TcCoe Idealize.SL.Sem
open Idealize.ShloMosaic.Pipeline (Dat)
open Cert.Kernel6Ideal Cert.Kernel6Ideal.Gen Cert.Pieces Cert.ProjRows Cert.FfnRows
open Cert.ProjA (rawB blk1 blk4 blk16 proj)

variable (m : (ℓ : Loc nD τ sig) → Buf (Elt Ideal) ℓ)

/-- The windows' block indices at a point: the rows are the point's tile, every weight window stands on its own tile,
    a group's sorted block is the sequence's and the row tile's within it, and a cache block is the one that the row
    tile stands in, counted from the end of the sequence. -/
theorem idx : ∀ t : Fin cfg0.N, win0_0.index t = ![t.val, 0] ∧ win0_1.index t = ![0, 4] ∧ win0_2.index t = ![0, 5]
    ∧ win0_3.index t = ![0, 6] ∧ win0_4.index t = ![0, 7] ∧ win0_5.index t = ![0, 8] ∧ win0_6.index t = ![0, 9]
    ∧ win0_7.index t = ![0, 0]
    ∧ win0_8.index t = ![t.val / 8, 0, t.val % 8, 0]
    ∧ win0_9.index t = ![t.val / 8, 0, t.val % 8, 0]
    ∧ win0_10.index t = ![t.val / 8, 0, t.val % 8, 0]
    ∧ win0_11.index t = ![t.val / 8, 0, t.val % 8, 0]
    ∧ win0_12.index t = ![t.val / 8, 0, t.val % 8, 0]
    ∧ win0_13.index t = ![t.val / 8, 0, t.val % 8, 0]
    ∧ win0_14.index t = ![t.val / 8, 0, 0, 0]
    ∧ win0_15.index t = ![t.val / 8, t.val % 8 - 6, 0, 0]
    ∧ win0_16.index t = ![t.val / 8, t.val % 8, 0, 0]
    ∧ win0_17.index t = ![t.val / 8, 0, 0, 0]
    ∧ win0_18.index t = ![t.val / 8, t.val % 8 - 6, 0, 0]
    ∧ win0_19.index t = ![t.val / 8, t.val % 8, 0, 0] :=
  (by decide +kernel : ∀ t : Fin grid0.N, _)

/-- The last visit of a cache block of the first group is the sequence's last row tile; one of the second group's is
    either of the last two. -/
theorem last : ∀ t : Fin cfg0.N, (win0_14.flush t = true → t.val % 8 = 7) ∧ (win0_17.flush t = true → t.val % 8 = 7)
    ∧ (win0_15.flush t = true → 6 ≤ t.val % 8) ∧ (win0_18.flush t = true → 6 ≤ t.val % 8) :=
  (by decide +kernel : ∀ t : Fin grid0.N, _)

/-- The arguments. -/
abbrev U (c : Dev nD) := m ((c : Thread nD τ).loc main_arg0)
abbrev W (c : Dev nD) := m ((c : Thread nD τ).loc main_arg1)
abbrev Q (c : Dev nD) := m ((c : Thread nD τ).loc main_arg2)

/-- The row tile at an entry. -/
theorem rows_at (c : Dev nD) (t : Fin cfg0.N) (i : Fin 256) (k : Fin 2048) :
    iblk m c 0 t (ix2 i k) = U m c (ix2 ⟨(256 * t.val + i.val) % 32768, by omega⟩ k) := by
  have ht : t.val < 128 := t.isLt
  have hi := i.isLt
  blk_point [iblk, V, idx t]

/-- The gain at an entry. -/
theorem gain_at (c : Dev nD) (t : Fin cfg0.N) (e : Fin 128) : iblk m c 7 t (ix2 0 e) = Q m c (ix2 0 e) := by
  blk_point [iblk, V, idx t]

/-- That a weight tile is the columns of the weight from `b` on. -/
def Tile (c : Dev nD) (T : Vec Ideal S2048x1024 .bf16) (b : ℕ) : Prop :=
  ∀ (k : Fin 2048) (l : Fin 1024), T (ix2 k l) = W m c (ix2 k ⟨(b + l.val) % 14336, by omega⟩)

theorem tile1 (c : Dev nD) (t : Fin cfg0.N) : Tile m c (iblk m c 1 t) 4096 := fun k l => by
  have hl := l.isLt
  blk_point [iblk, V, idx t]

theorem tile2 (c : Dev nD) (t : Fin cfg0.N) : Tile m c (iblk m c 2 t) 5120 := fun k l => by
  have hl := l.isLt
  blk_point [iblk, V, idx t]

theorem tile3 (c : Dev nD) (t : Fin cfg0.N) : Tile m c (iblk m c 3 t) 6144 := fun k l => by
  have hl := l.isLt
  blk_point [iblk, V, idx t]

theorem tile4 (c : Dev nD) (t : Fin cfg0.N) : Tile m c (iblk m c 4 t) 7168 := fun k l => by
  have hl := l.isLt
  blk_point [iblk, V, idx t]

theorem tile5 (c : Dev nD) (t : Fin cfg0.N) : Tile m c (iblk m c 5 t) 8192 := fun k l => by
  have hl := l.isLt
  blk_point [iblk, V, idx t]

theorem tile6 (c : Dev nD) (t : Fin cfg0.N) : Tile m c (iblk m c 6 t) 9216 := fun k l => by
  have hl := l.isLt
  blk_point [iblk, V, idx t]

/-- A tile's product at an entry is the whole product's. -/
theorem rawB_at {c : Dev nD} {T : Vec Ideal S2048x1024 .bf16} {b : ℕ} (hT : Tile m c T b) (t : Fin cfg0.N) (i h l : ℕ) :
    rawB (iblk m c 0 t) T i h l = proj (U m c) (W m c) (256 * t.val + i % 256) (b + (h % 8 * 128 + l % 128)) := by
  unfold rawB raw proj
  refine Finset.sum_congr rfl fun k _ => ?_
  exact congrArg₂ (· * ·) (rows_at m c t _ k) (hT k _)

/-- A key head of a tile at an entry is the whole's. -/
theorem keyB_at {c : Dev nD} {T : Vec Ideal S2048x1024 .bf16} {b : ℕ} (hT : Tile m c T b) (t : Fin cfg0.N) (i h l : ℕ) :
    keyB (iblk m c 0 t) T (iblk m c 7 t) i h l
      = key (U m c) (W m c) (Q m c) (256 * t.val + i % 256) (b + h % 8 * 128) l := by
  unfold keyB normed key
  congr 2
  · funext e
    rw [show raw _ _ i h e.val = _ from rawB_at m hT t i h e.val, Nat.mod_eq_of_lt e.isLt, Nat.add_assoc]
  · funext e
    exact gain_at m c t e

theorem final8 (c : Dev nD) : (dats m 0 c).arrAt 8 (cfgs 0).N = sorted0 (keys (U m c) (W m c) (Q m c)) := by
  refine (dats m 0 c).arrAt_eq_of_covers 8 _ (by decide +kernel) fun t _ y => ?_
  have ht : t.val < 128 := t.isLt
  blk_simp
  rw [after8, out8]
  idx_vars y
  unfold blk1
  refine (keyB_at m (tile1 m c t) t _ _ _).trans ?_
  have he : ((View.whole main_v0_0).slice (win0_8.rect t)).emb (ix4 y0 y1 y2 y3)
      = ix4 (⟨t.val / 8, by omega⟩ : Fin 16) y1 (⟨256 * (t.val % 8) + y2.val, by omega⟩ : Fin 2048) y3 := by
    blk_ext [idx t]
  rw [he, sorted0_at, keys_at]
  refine congrFun (congr (congrArg _ ?_) ?_) _
  · show 256 * t.val + y2.val % 256 = t.val / 8 * 2048 + (256 * (t.val % 8) + y2.val)
    omega
  · show 4096 + y3.val / 128 % 8 * 128 = 4096 + 0 * 1024 + y3.val / 128 * 128
    omega

theorem final9 (c : Dev nD) : (dats m 0 c).arrAt 9 (cfgs 0).N = sorted1 (keys (U m c) (W m c) (Q m c)) := by
  refine (dats m 0 c).arrAt_eq_of_covers 9 _ (by decide +kernel) fun t _ y => ?_
  have ht : t.val < 128 := t.isLt
  blk_simp
  rw [after9, out9]
  idx_vars y
  unfold blk4
  refine (keyB_at m (tile2 m c t) t _ _ _).trans ?_
  have he : ((View.whole main_v0_1).slice (win0_9.rect t)).emb (ix4 y0 y1 y2 y3)
      = ix4 (⟨t.val / 8, by omega⟩ : Fin 16) y1 (⟨64 * (t.val % 8) + y2.val, by omega⟩ : Fin 512) y3 := by
    blk_ext [idx t]
  rw [he, sorted1_at, keys_at]
  refine congrFun (congr (congrArg _ ?_) ?_) _
  · show 256 * t.val + (4 * y2.val + y1.val) % 256 = t.val / 8 * 2048 + ((64 * (t.val % 8) + y2.val) * 4 + y1.val)
    omega
  · show 5120 + y3.val / 128 % 8 * 128 = 4096 + 1 * 1024 + y3.val / 128 * 128
    omega

theorem final10 (c : Dev nD) : (dats m 0 c).arrAt 10 (cfgs 0).N = sorted2 (keys (U m c) (W m c) (Q m c)) := by
  refine (dats m 0 c).arrAt_eq_of_covers 10 _ (by decide +kernel) fun t _ y => ?_
  have ht : t.val < 128 := t.isLt
  blk_simp
  rw [after10, out10]
  idx_vars y
  unfold blk16
  refine (keyB_at m (tile3 m c t) t _ _ _).trans ?_
  have he : ((View.whole main_v0_2).slice (win0_10.rect t)).emb (ix4 y0 y1 y2 y3)
      = ix4 (⟨t.val / 8, by omega⟩ : Fin 16) y1 (⟨16 * (t.val % 8) + y2.val, by omega⟩ : Fin 128) y3 := by
    blk_ext [idx t]
  rw [he, sorted2_at, keys_at]
  refine congrFun (congr (congrArg _ ?_) ?_) _
  · show 256 * t.val + (16 * y2.val + y1.val) % 256 = t.val / 8 * 2048 + ((16 * (t.val % 8) + y2.val) * 16 + y1.val)
    omega
  · show 6144 + y3.val / 128 % 8 * 128 = 4096 + 2 * 1024 + y3.val / 128 * 128
    omega

theorem final11 (c : Dev nD) : (dats m 0 c).arrAt 11 (cfgs 0).N = sorted0 (values (U m c) (W m c)) := by
  refine (dats m 0 c).arrAt_eq_of_covers 11 _ (by decide +kernel) fun t _ y => ?_
  have ht : t.val < 128 := t.isLt
  blk_simp
  rw [after11, out11]
  idx_vars y
  unfold blk1
  refine (rawB_at m (tile4 m c t) t _ _ _).trans ?_
  have he : ((View.whole main_v0_3).slice (win0_11.rect t)).emb (ix4 y0 y1 y2 y3)
      = ix4 (⟨t.val / 8, by omega⟩ : Fin 16) y1 (⟨256 * (t.val % 8) + y2.val, by omega⟩ : Fin 2048) y3 := by
    blk_ext [idx t]
  rw [he, sorted0_at, values_at]
  refine congr (congrArg _ ?_) ?_
  · show 256 * t.val + y2.val % 256 = t.val / 8 * 2048 + (256 * (t.val % 8) + y2.val)
    omega
  · show 7168 + (y3.val / 128 % 8 * 128 + y3.val % 128 % 128) = 7168 + 0 * 1024 + y3.val / 128 * 128 + y3.val % 128
    omega

theorem final12 (c : Dev nD) : (dats m 0 c).arrAt 12 (cfgs 0).N = sorted1 (values (U m c) (W m c)) := by
  refine (dats m 0 c).arrAt_eq_of_covers 12 _ (by decide +kernel) fun t _ y => ?_
  have ht : t.val < 128 := t.isLt
  blk_simp
  rw [after12, out12]
  idx_vars y
  unfold blk4
  refine (rawB_at m (tile5 m c t) t _ _ _).trans ?_
  have he : ((View.whole main_v0_4).slice (win0_12.rect t)).emb (ix4 y0 y1 y2 y3)
      = ix4 (⟨t.val / 8, by omega⟩ : Fin 16) y1 (⟨64 * (t.val % 8) + y2.val, by omega⟩ : Fin 512) y3 := by
    blk_ext [idx t]
  rw [he, sorted1_at, values_at]
  refine congr (congrArg _ ?_) ?_
  · show 256 * t.val + (4 * y2.val + y1.val) % 256 = t.val / 8 * 2048 + ((64 * (t.val % 8) + y2.val) * 4 + y1.val)
    omega
  · show 8192 + (y3.val / 128 % 8 * 128 + y3.val % 128 % 128) = 7168 + 1 * 1024 + y3.val / 128 * 128 + y3.val % 128
    omega

theorem final13 (c : Dev nD) : (dats m 0 c).arrAt 13 (cfgs 0).N = sorted2 (values (U m c) (W m c)) := by
  refine (dats m 0 c).arrAt_eq_of_covers 13 _ (by decide +kernel) fun t _ y => ?_
  have ht : t.val < 128 := t.isLt
  blk_simp
  rw [after13, out13]
  idx_vars y
  unfold blk16
  refine (rawB_at m (tile6 m c t) t _ _ _).trans ?_
  have he : ((View.whole main_v0_5).slice (win0_13.rect t)).emb (ix4 y0 y1 y2 y3)
      = ix4 (⟨t.val / 8, by omega⟩ : Fin 16) y1 (⟨16 * (t.val % 8) + y2.val, by omega⟩ : Fin 128) y3 := by
    blk_ext [idx t]
  rw [he, sorted2_at, values_at]
  refine congr (congrArg _ ?_) ?_
  · show 256 * t.val + (16 * y2.val + y1.val) % 256 = t.val / 8 * 2048 + ((16 * (t.val % 8) + y2.val) * 16 + y1.val)
    omega
  · show 9216 + (y3.val / 128 % 8 * 128 + y3.val % 128 % 128) = 7168 + 2 * 1024 + y3.val / 128 * 128 + y3.val % 128
    omega

theorem final14 (c : Dev nD) : (dats m 0 c).arrAt 14 (cfgs 0).N = kept0 (keys (U m c) (W m c) (Q m c)) := by
  refine (dats m 0 c).arrAt_eq_of_covers 14 _ (by decide +kernel) fun t hf y => ?_
  have ht : t.val < 128 := t.isLt
  have h8 : t.val % 8 = 7 := (last t).1 hf
  blk_simp
  rw [after14, out14]
  idx_vars y
  unfold rowsH
  refine (keyB_at m (tile1 m c t) t _ _ _).trans ?_
  have he : ((View.whole main_v0_6).slice (win0_14.rect t)).emb (ix4 y0 y1 y2 y3)
      = ix4 (⟨t.val / 8, by omega⟩ : Fin 16) y1 y2 y3 := by
    blk_ext [idx t]
  rw [he, kept0_at, keys_at]
  refine congrFun (congr (congrArg _ ?_) ?_) _
  · show 256 * t.val + (128 + y2.val / 8) % 256 = t.val / 8 * 2048 + (1920 + y2.val / 8)
    omega
  · show 4096 + y2.val % 8 % 8 * 128 = 4096 + 0 * 1024 + y2.val % 8 * 128
    omega

theorem final15 (c : Dev nD) : (dats m 0 c).arrAt 15 (cfgs 0).N = kept1 (keys (U m c) (W m c) (Q m c)) := by
  refine (dats m 0 c).arrAt_eq_of_covers 15 _ (by decide +kernel) fun t hf y => ?_
  have ht : t.val < 128 := t.isLt
  have h8 : 6 ≤ t.val % 8 := (last t).2.2.1 hf
  blk_simp
  rw [after15, out15]
  idx_vars y
  unfold rowsF
  refine (keyB_at m (tile2 m c t) t _ _ _).trans ?_
  have he : ((View.whole main_v0_7).slice (win0_15.rect t)).emb (ix4 y0 y1 y2 y3)
      = ix4 (⟨t.val / 8, by omega⟩ : Fin 16) (⟨t.val % 8 - 6, by omega⟩ : Fin 2) y2 y3 := by
    blk_ext [idx t]
  rw [he, kept1_at, keys_at]
  refine congrFun (congr (congrArg _ ?_) ?_) _
  · show 256 * t.val + (y2.val / 8) % 256 = t.val / 8 * 2048 + (1536 + ((t.val % 8 - 6) * 256 + y2.val / 8))
    omega
  · show 5120 + y2.val % 8 % 8 * 128 = 4096 + 1 * 1024 + y2.val % 8 * 128
    omega

theorem final16 (c : Dev nD) : (dats m 0 c).arrAt 16 (cfgs 0).N = kept2 (keys (U m c) (W m c) (Q m c)) := by
  refine (dats m 0 c).arrAt_eq_of_covers 16 _ (by decide +kernel) fun t _ y => ?_
  have ht : t.val < 128 := t.isLt
  blk_simp
  rw [after16, out16]
  idx_vars y
  unfold rowsF
  refine (keyB_at m (tile3 m c t) t _ _ _).trans ?_
  have he : ((View.whole main_v0_8).slice (win0_16.rect t)).emb (ix4 y0 y1 y2 y3)
      = ix4 (⟨t.val / 8, by omega⟩ : Fin 16) (⟨t.val % 8, by omega⟩ : Fin 8) y2 y3 := by
    blk_ext [idx t]
  rw [he, kept2_at, keys_at]
  refine congrFun (congr (congrArg _ ?_) ?_) _
  · show 256 * t.val + (y2.val / 8) % 256 = t.val / 8 * 2048 + (t.val % 8 * 256 + y2.val / 8)
    omega
  · show 6144 + y2.val % 8 % 8 * 128 = 4096 + 2 * 1024 + y2.val % 8 * 128
    omega

theorem final17 (c : Dev nD) : (dats m 0 c).arrAt 17 (cfgs 0).N = kept0 (values (U m c) (W m c)) := by
  refine (dats m 0 c).arrAt_eq_of_covers 17 _ (by decide +kernel) fun t hf y => ?_
  have ht : t.val < 128 := t.isLt
  have h8 : t.val % 8 = 7 := (last t).2.1 hf
  blk_simp
  rw [after17, out17]
  idx_vars y
  unfold rowsH
  refine (rawB_at m (tile4 m c t) t _ _ _).trans ?_
  have he : ((View.whole main_v0_9).slice (win0_17.rect t)).emb (ix4 y0 y1 y2 y3)
      = ix4 (⟨t.val / 8, by omega⟩ : Fin 16) y1 y2 y3 := by
    blk_ext [idx t]
  rw [he, kept0_at, values_at]
  refine congr (congrArg _ ?_) ?_
  · show 256 * t.val + (128 + y2.val / 8) % 256 = t.val / 8 * 2048 + (1920 + y2.val / 8)
    omega
  · show 7168 + (y2.val % 8 % 8 * 128 + y3.val % 128) = 7168 + 0 * 1024 + y2.val % 8 * 128 + y3.val
    omega

theorem final18 (c : Dev nD) : (dats m 0 c).arrAt 18 (cfgs 0).N = kept1 (values (U m c) (W m c)) := by
  refine (dats m 0 c).arrAt_eq_of_covers 18 _ (by decide +kernel) fun t hf y => ?_
  have ht : t.val < 128 := t.isLt
  have h8 : 6 ≤ t.val % 8 := (last t).2.2.2 hf
  blk_simp
  rw [after18, out18]
  idx_vars y
  unfold rowsF
  refine (rawB_at m (tile5 m c t) t _ _ _).trans ?_
  have he : ((View.whole main_v0_10).slice (win0_18.rect t)).emb (ix4 y0 y1 y2 y3)
      = ix4 (⟨t.val / 8, by omega⟩ : Fin 16) (⟨t.val % 8 - 6, by omega⟩ : Fin 2) y2 y3 := by
    blk_ext [idx t]
  rw [he, kept1_at, values_at]
  refine congr (congrArg _ ?_) ?_
  · show 256 * t.val + (y2.val / 8) % 256 = t.val / 8 * 2048 + (1536 + ((t.val % 8 - 6) * 256 + y2.val / 8))
    omega
  · show 8192 + (y2.val % 8 % 8 * 128 + y3.val % 128) = 7168 + 1 * 1024 + y2.val % 8 * 128 + y3.val
    omega

theorem final19 (c : Dev nD) : (dats m 0 c).arrAt 19 (cfgs 0).N = kept2 (values (U m c) (W m c)) := by
  refine (dats m 0 c).arrAt_eq_of_covers 19 _ (by decide +kernel) fun t _ y => ?_
  have ht : t.val < 128 := t.isLt
  blk_simp
  rw [after19, out19]
  idx_vars y
  unfold rowsF
  refine (rawB_at m (tile6 m c t) t _ _ _).trans ?_
  have he : ((View.whole main_v0_11).slice (win0_19.rect t)).emb (ix4 y0 y1 y2 y3)
      = ix4 (⟨t.val / 8, by omega⟩ : Fin 16) (⟨t.val % 8, by omega⟩ : Fin 8) y2 y3 := by
    blk_ext [idx t]
  rw [he, kept2_at, values_at]
  refine congr (congrArg _ ?_) ?_
  · show 256 * t.val + (y2.val / 8) % 256 = t.val / 8 * 2048 + (t.val % 8 * 256 + y2.val / 8)
    omega
  · show 9216 + (y2.val % 8 % 8 * 128 + y3.val % 128) = 7168 + 2 * 1024 + y2.val % 8 * 128 + y3.val
    omega

end Cert.ProjB

end
-- ==== Proof.ProjBClose.lean ====
/- The runs of the second projection and of its reference, with their twelve results named. -/
module

public import proofs.«01_k».proof.Proof.ProjBEnd

@[expose] public section

set_option maxRecDepth 16384
set_option maxHeartbeats 4000000

noncomputable section

namespace Cert.ProjB.Ref

open Idealize.ShloMosaic Idealize.ShloMosaic.TcCoe Idealize.SL.Sem
open Cert.Reference6Ideal Cert.Reference6Ideal.Gen Cert.ProjB

variable (m : (ℓ : Loc nD τ sig) → Buf (Elt Ideal) ℓ) (c : Dev nD)

/-- The reference's rows, weight and gain. -/
abbrev X0 : FVec Ideal S32768x2048 .bf16 := m ((c.tc : Thread nD τ).loc main_arg0)
abbrev X1 : FVec Ideal S2048x14336 .bf16 := m ((c.tc : Thread nD τ).loc main_arg1)
abbrev X2 : FVec Ideal S1x128 .f32 := m ((c.tc : Thread nD τ).loc main_arg2)

/-- The reference ends with its twelve results, its arguments as they were. -/
theorem run_named (ρ : Dev nD → PrngReg) :
    θ_run defs (onTc (τ := τ) (main (F := Ideal))) ⟨m, fun _ => 0, ρ⟩ fun r => ∀ c : Dev nD,
      r.2.mem ((c.tc : Thread nD τ).loc main_v25) = sorted0 (keys (X0 m c) (X1 m c) (X2 m c))
      ∧ r.2.mem ((c.tc : Thread nD τ).loc main_v30) = sorted1 (keys (X0 m c) (X1 m c) (X2 m c))
      ∧ r.2.mem ((c.tc : Thread nD τ).loc main_v35) = sorted2 (keys (X0 m c) (X1 m c) (X2 m c))
      ∧ r.2.mem ((c.tc : Thread nD τ).loc main_v40) = sorted0 (values (X0 m c) (X1 m c))
      ∧ r.2.mem ((c.tc : Thread nD τ).loc main_v45) = sorted1 (values (X0 m c) (X1 m c))
      ∧ r.2.mem ((c.tc : Thread nD τ).loc main_v50) = sorted2 (values (X0 m c) (X1 m c))
      ∧ r.2.mem ((c.tc : Thread nD τ).loc main_v54) = kept0 (keys (X0 m c) (X1 m c) (X2 m c))
      ∧ r.2.mem ((c.tc : Thread nD τ).loc main_v58) = kept1 (keys (X0 m c) (X1 m c) (X2 m c))
      ∧ r.2.mem ((c.tc : Thread nD τ).loc main_v61) = kept2 (keys (X0 m c) (X1 m c) (X2 m c))
      ∧ r.2.mem ((c.tc : Thread nD τ).loc main_v65) = kept0 (values (X0 m c) (X1 m c))
      ∧ r.2.mem ((c.tc : Thread nD τ).loc main_v69) = kept1 (values (X0 m c) (X1 m c))
      ∧ r.2.mem ((c.tc : Thread nD τ).loc main_v72) = kept2 (values (X0 m c) (X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Cert.Reference6Ideal.Value.run m ρ)

end Cert.ProjB.Ref

namespace Cert.ProjB

open Idealize.ShloMosaic Idealize.ShloMosaic.TcCoe Idealize.SL.Sem
open Cert.Kernel6Ideal Cert.Kernel6Ideal.Gen

/-- The kernel ends with what its windows hold after the last grid step, its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = (dats m 0 c).arrAt 8 (cfgs 0).N
      ∧ r.2.mem ((c.tc : Thread nD τ).loc main_v0_1) = (dats m 0 c).arrAt 9 (cfgs 0).N
      ∧ r.2.mem ((c.tc : Thread nD τ).loc main_v0_2) = (dats m 0 c).arrAt 10 (cfgs 0).N
      ∧ r.2.mem ((c.tc : Thread nD τ).loc main_v0_3) = (dats m 0 c).arrAt 11 (cfgs 0).N
      ∧ r.2.mem ((c.tc : Thread nD τ).loc main_v0_4) = (dats m 0 c).arrAt 12 (cfgs 0).N
      ∧ r.2.mem ((c.tc : Thread nD τ).loc main_v0_5) = (dats m 0 c).arrAt 13 (cfgs 0).N
      ∧ r.2.mem ((c.tc : Thread nD τ).loc main_v0_6) = (dats m 0 c).arrAt 14 (cfgs 0).N
      ∧ r.2.mem ((c.tc : Thread nD τ).loc main_v0_7) = (dats m 0 c).arrAt 15 (cfgs 0).N
      ∧ r.2.mem ((c.tc : Thread nD τ).loc main_v0_8) = (dats m 0 c).arrAt 16 (cfgs 0).N
      ∧ r.2.mem ((c.tc : Thread nD τ).loc main_v0_9) = (dats m 0 c).arrAt 17 (cfgs 0).N
      ∧ r.2.mem ((c.tc : Thread nD τ).loc main_v0_10) = (dats m 0 c).arrAt 18 (cfgs 0).N
      ∧ r.2.mem ((c.tc : Thread nD τ).loc main_v0_11) = (dats m 0 c).arrAt 19 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 8, (h.1 c).1 9, (h.1 c).1 10, (h.1 c).1 11, (h.1 c).1 12, (h.1 c).1 13, (h.1 c).1 14, (h.1 c).1 15, (h.1 c).1 16, (h.1 c).1 17, (h.1 c).1 18, (h.1 c).1 19, h.2.1 c⟩)
    (θ_run_and (run_main m ρ) (frame m ρ))

end Cert.ProjB

end
-- ==== Proof.ProjBSame.lean ====
/- The compiled second projection and its exact-arithmetic counterpart are the same program, up to the reading of the
   floats: so what is proved of one at every reading is proved of the other. -/
module

public import proofs.«01_k».proof.Proof.Gen.Kernel6
public import proofs.«01_k».proof.Proof.ProjBFrame
public import Idealize.ShloMosaic.Lib.Pipeline.ValueKit

@[expose] public section

namespace Cert.ProjB

open Idealize.ShloMosaic Idealize.SL.Sem

variable {F : FTy → Type} [FloatOps F]

set_option maxHeartbeats 8000000 in
set_option maxRecDepth 100000 in
/-- The two body tables run the same kernel. -/
theorem table_eq : @Cert.Kernel6.defs₀ F _ _ = @Cert.Kernel6Ideal.defs₀ F _ _ := by
  unfold Cert.Kernel6.defs₀ Cert.Kernel6Ideal.defs₀
  refine congrArg Defs.onTc (funext fun l => funext fun x => ?_)
  match l, x with
  | 0, (t, s) => sl_kernel_rfl
  | ⟨_ + 1, h⟩, _ => exact absurd h (Nat.not_lt.2 (Nat.le_add_left _ _))

theorem defs_eq : @Cert.Kernel6.defs F _ _ = @Cert.Kernel6Ideal.defs F _ _ := by
  unfold Cert.Kernel6.defs Cert.Kernel6Ideal.defs
  exact congrArg (Pipeline.defs _) table_eq

/-- The compiled call's arguments end as they were, and every counter at zero. -/
theorem frame_compiled (m : (ℓ : Loc Cert.Kernel6.nD Cert.Kernel6.τ Cert.Kernel6.sig) → Buf (Elt F) ℓ) (ρ : Dev Cert.Kernel6.nD → PrngReg) :
    θ_run Cert.Kernel6.defs (onTc (τ := Cert.Kernel6.τ) (Cert.Kernel6.main (F := F))) ⟨m, fun _ => 0, ρ⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0) := by
  rw [defs_eq]
  exact frame (F := F) m ρ

end Cert.ProjB

end
-- ==== Proof.lean ====
/- The certificate: every claim of Defs.lean, from the frames, the runs and the value theorems of the modules. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Ffn2
public import proofs.«01_k».proof.Proof.Ffn1
public import proofs.«01_k».proof.Proof.Ffn1Same
public import proofs.«01_k».proof.Proof.Ple
public import proofs.«01_k».proof.Proof.ProjAEnd
public import proofs.«01_k».proof.Proof.ProjBEnd
public import proofs.«01_k».proof.Proof.ProjBClose
public import proofs.«01_k».proof.Proof.ProjBSame
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The second feed-forward call and its reference compute the same function. -/
theorem ffn2_value : algebraic_Kernel2Ideal_Reference2Ideal := by
  pair_intro
  · run_from Cert.Kernel2Ideal.Gen.run_main m g
  · run_from Cert.Reference2Ideal.Value.run m' g'
    exact (Cert.Ffn2.final m c).symm

/-- The reference ends with its arguments unchanged and declares no semaphore. -/
theorem frame_Reference2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The first feed-forward call and its reference compute the same two functions. -/
theorem ffn1_value : algebraic_Kernel3Ideal_Reference3Ideal := by
  pair_intro
  · run_from Cert.Ffn1.run_main m g
  · run_from Cert.Reference3Ideal.Value.run m' g'
    · exact (Cert.Ffn1.final_rows m c).symm
    · rw [Cert.Ffn1.refu_eq, (hagree c).1, (hagree c).2.1, (hagree c).2.2.1, (hagree c).2.2.2.1, (hagree c).2.2.2.2]
      exact (Cert.Ffn1.final_scaled m c).symm

/-- The reference ends with its arguments unchanged and declares no semaphore. -/
theorem frame_Reference3 : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The per-token embedding call and its reference compute the same function. -/
theorem ple_value : algebraic_Kernel4Ideal_Reference4Ideal := by
  pair_intro
  · run_from Cert.Kernel4Ideal.Gen.run_main m g
  · run_from Cert.Reference4Ideal.Value.run m' g'
    exact (Cert.Ple.final m c).symm

/-- The reference ends with its arguments unchanged and declares no semaphore. -/
theorem frame_Reference4 : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The first projection and its reference compute the same five functions. -/
theorem proja_value : algebraic_Kernel5Ideal_Reference5Ideal := by
  pair_intro
  · run_from Cert.Kernel5Ideal.Gen.run_main m g
  · run_from Cert.Reference5Ideal.Value.run m' g'
    · exact (Cert.ProjA.final10 m c).symm
    · exact (Cert.ProjA.final11 m c).symm
    · exact (Cert.ProjA.final12 m c).symm
    · exact (Cert.ProjA.final13 m c).symm
    · exact (Cert.ProjA.final14 m c).symm

/-- The reference ends with its arguments unchanged and declares no semaphore. -/
theorem frame_Reference5 : quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The second projection and its reference compute the same twelve functions. -/
theorem projb_value : algebraic_Kernel6Ideal_Reference6Ideal := by
  intro m g m' g' _ hagree
  refine ⟨fun c => (Cert.ProjB.dats m 0 c).arrAt 8 (Cert.Kernel6Ideal.cfgs 0).N, fun c => (Cert.ProjB.dats m 0 c).arrAt 9 (Cert.Kernel6Ideal.cfgs 0).N, fun c => (Cert.ProjB.dats m 0 c).arrAt 10 (Cert.Kernel6Ideal.cfgs 0).N, fun c => (Cert.ProjB.dats m 0 c).arrAt 11 (Cert.Kernel6Ideal.cfgs 0).N, fun c => (Cert.ProjB.dats m 0 c).arrAt 12 (Cert.Kernel6Ideal.cfgs 0).N, fun c => (Cert.ProjB.dats m 0 c).arrAt 13 (Cert.Kernel6Ideal.cfgs 0).N, fun c => (Cert.ProjB.dats m 0 c).arrAt 14 (Cert.Kernel6Ideal.cfgs 0).N, fun c => (Cert.ProjB.dats m 0 c).arrAt 15 (Cert.Kernel6Ideal.cfgs 0).N, fun c => (Cert.ProjB.dats m 0 c).arrAt 16 (Cert.Kernel6Ideal.cfgs 0).N, fun c => (Cert.ProjB.dats m 0 c).arrAt 17 (Cert.Kernel6Ideal.cfgs 0).N, fun c => (Cert.ProjB.dats m 0 c).arrAt 18 (Cert.Kernel6Ideal.cfgs 0).N, fun c => (Cert.ProjB.dats m 0 c).arrAt 19 (Cert.Kernel6Ideal.cfgs 0).N, Cert.ProjB.run_named m g, ?_⟩
  refine (θ_run Cert.Reference6Ideal.defs _ _).mono (fun r h c => ?_) (Cert.ProjB.Ref.run_named m' g')
  obtain ⟨h8, h9, h10, h11, h12, h13, h14, h15, h16, h17, h18, h19, hargs⟩ := h c
  have e0 : Cert.ProjB.Ref.X0 m' c = Cert.ProjB.U m c := (hagree c).1
  have e1 : Cert.ProjB.Ref.X1 m' c = Cert.ProjB.W m c := (hagree c).2.1
  have e2 : Cert.ProjB.Ref.X2 m' c = Cert.ProjB.Q m c := (hagree c).2.2
  rw [e0, e1, e2] at h8
  rw [e0, e1, e2] at h9
  rw [e0, e1, e2] at h10
  rw [e0, e1] at h11
  rw [e0, e1] at h12
  rw [e0, e1] at h13
  rw [e0, e1, e2] at h14
  rw [e0, e1, e2] at h15
  rw [e0, e1, e2] at h16
  rw [e0, e1] at h17
  rw [e0, e1] at h18
  rw [e0, e1] at h19
  exact ⟨h8.trans (Cert.ProjB.final8 m c).symm, h9.trans (Cert.ProjB.final9 m c).symm, h10.trans (Cert.ProjB.final10 m c).symm, h11.trans (Cert.ProjB.final11 m c).symm, h12.trans (Cert.ProjB.final12 m c).symm, h13.trans (Cert.ProjB.final13 m c).symm, h14.trans (Cert.ProjB.final14 m c).symm, h15.trans (Cert.ProjB.final15 m c).symm, h16.trans (Cert.ProjB.final16 m c).symm, h17.trans (Cert.ProjB.final17 m c).symm, h18.trans (Cert.ProjB.final18 m c).symm, h19.trans (Cert.ProjB.final19 m c).symm, hargs⟩

/-- The reference ends with its arguments unchanged and declares no semaphore. -/
theorem frame_Reference6 : quiescent_Reference6Ideal := fun m ρ _ =>
  (θ_run Cert.Reference6Ideal.defs _ _).mono (fun r h => ⟨fun c => (h c).2.2.2.2.2.2.2.2.2.2.2.2, sem_eq_zero_of_no_sems (by decide) r.2⟩)
    (Cert.Reference6Ideal.Value.run (F := Ideal) m ρ)

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel2.Gen.frame m ρ, fun m ρ _ => Cert.Kernel2Ideal.Gen.frame m ρ, frame_Reference2,
  fun m ρ _ => Cert.Ffn1.frame_compiled (F := Bits) m ρ, fun m ρ _ => Cert.Ffn1.frame (F := Ideal) m ρ, frame_Reference3,
  fun m ρ _ => Cert.Kernel4.Gen.frame m ρ, fun m ρ _ => Cert.Kernel4Ideal.Gen.frame m ρ, frame_Reference4,
  fun m ρ _ => Cert.Kernel5.Gen.frame m ρ, fun m ρ _ => Cert.Kernel5Ideal.Gen.frame m ρ, frame_Reference5,
  fun m ρ _ => Cert.ProjB.frame_compiled (F := Bits) m ρ, fun m ρ _ => Cert.ProjB.frame (F := Ideal) m ρ, frame_Reference6,
  (trivial : preserves_Kernel2_Kernel2Ideal), ffn2_value,
  (trivial : preserves_Kernel3_Kernel3Ideal), ffn1_value,
  (trivial : preserves_Kernel4_Kernel4Ideal), ple_value,
  (trivial : preserves_Kernel5_Kernel5Ideal), proja_value,
  (trivial : preserves_Kernel6_Kernel6Ideal), projb_value⟩

end Cert.Proof

end
